-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x64 .f32) (main_arg5 : FVec F S64 .f32) (main_arg6 : FVec F S64x32 .f32) (main_arg7 : FVec F S32 .f32) (main_arg8 : FVec F S32x1 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S1x32 : Shape := ⟨2, ![1, 32]⟩
abbrev S1x1 : Shape := ⟨2, ![1, 1]⟩
abbrev S16384x256 : Shape := ⟨2, ![16384, 256]⟩
abbrev S512 : Shape := ⟨1, ![512]⟩
abbrev S256x128 : Shape := ⟨2, ![256, 128]⟩
abbrev S_ : Shape := ⟨0, ![]⟩
abbrev S256 : Shape := ⟨1, ![256]⟩
abbrev S2x1x8192 : Shape := ⟨3, ![2, 1, 8192]⟩
abbrev S8192x256 : Shape := ⟨2, ![8192, 256]⟩
abbrev S1x1x8192 : Shape := ⟨3, ![1, 1, 8192]⟩
abbrev S8192x64 : Shape := ⟨2, ![8192, 64]⟩
abbrev S8192x32 : Shape := ⟨2, ![8192, 32]⟩
abbrev S1x8192 : Shape := ⟨2, ![1, 8192]⟩

abbrev nBuf : Table → Nat
  | .hbm => 17
  | .local .tc .vmem => 10
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x64, .f32⟩
  | .hbm, ⟨11, _⟩ => ⟨S1x32, .f32⟩
  | .hbm, ⟨12, _⟩ => ⟨S1x32, .f32⟩
  | .hbm, ⟨13, _⟩ => ⟨S1x1, .f32⟩
  | .hbm, ⟨14, _⟩ => ⟨S16384x256, .f32⟩
  | .hbm, ⟨15, _⟩ => ⟨S2x1x8192, .f32⟩
  | .hbm, ⟨16, _⟩ => ⟨S16384, .f32⟩
  | .local .tc .vmem, ⟨0, _⟩ => ⟨S8192x256, .f32⟩
  | .local .tc .vmem, ⟨1, _⟩ => ⟨S8192x256, .f32⟩
  | .local .tc .vmem, ⟨2, _⟩ => ⟨S256x64, .f32⟩
  | .local .tc .vmem, ⟨3, _⟩ => ⟨S1x64, .f32⟩
  | .local .tc .vmem, ⟨4, _⟩ => ⟨S64x32, .f32⟩
  | .local .tc .vmem, ⟨5, _⟩ => ⟨S1x32, .f32⟩
  | .local .tc .vmem, ⟨6, _⟩ => ⟨S1x32, .f32⟩
  | .local .tc .vmem, ⟨7, _⟩ => ⟨S1x1, .f32⟩
  | .local .tc .vmem, ⟨8, _⟩ => ⟨S1x1x8192, .f32⟩
  | .local .tc .vmem, ⟨9, _⟩ => ⟨S1x1x8192, .f32⟩
  | .local .scVector .vmem, ⟨0, _⟩ => ⟨S512, .i32⟩
  | .local .scVector .vmem, ⟨1, _⟩ => ⟨S512, .i32⟩
  | .local .scVector .vmem, ⟨2, _⟩ => ⟨S256x128, .f32⟩
  | .local .scVector .vmem, ⟨3, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v4_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_7
  let c0_i32_8 : BitVec 32 := 0#32
  ![v9.toNat, 0]
def k0_off3 (i : grid0.Coords) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v27 : BitVec 32 := Scalar.addi v2 c0_i32_29
  let c128_i32 : BitVec 32 := 128#32
  ![v27.toNat, 128]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩

abbrev nBuf : Space → Nat
  | .hbm => 84
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S16384x32, .f32⟩
  | .hbm, ⟨65, _⟩ => ⟨S1x32, .f32⟩
  | .hbm, ⟨66, _⟩ => ⟨S16384x32, .f32⟩
  | .hbm, ⟨67, _⟩ => ⟨S16384x32, .f32⟩
  | .hbm, ⟨68, _⟩ => ⟨S_, .f32⟩
  | .hbm, ⟨69, _⟩ => ⟨S16384x32, .f32⟩
  | .hbm, ⟨70, _⟩ => ⟨S16384x32, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_call2_cst : Ref sig .tc := ⟨.hbm, 61, rfl⟩
abbrev main_call2_v0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call3_cst : Ref sig .tc := ⟨.hbm, 68, rfl⟩
abbrev main_call3_v0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst : Ref sig .tc := ⟨.hbm, 77, rfl⟩
abbrev main_v19 : Ref sig .tc := ⟨.hbm, 78, rfl⟩
abbrev main_v20 : Ref sig .tc := ⟨.hbm, 79, rfl⟩
abbrev main_cst_0 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩

abbrev nD : Nat := 1
abbrev τ : Topo := Topo.v7x

variable {F : FTy → Type} [FloatOps F]
-- ==== Proof.Setup.lean ====
/-
  What the proof of the whole program is set up over: the program as the launch theorem takes it, the ghost state it runs
  with, the arrays by name, and the value the SparseCore call leaves: row `r` of `x` is the user's row of the first
  table followed by the item's row of the second.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.ValueIdxCoords
public import proofs.«01_k».proof.Proof.Gen.KernelIdeal
public import proofs.«01_k».proof.Proof.Gen.KernelIdeal.Skeleton

@[expose] public section

noncomputable section

namespace Cert.Proof.Two

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the SparseCore handshakes, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev uIdxLoc (d : Dev nD) : Loc nD τ sig := (SparseCore.T d).loc main_arg0
abbrev vIdxLoc (d : Dev nD) : Loc nD τ sig := (SparseCore.T d).loc main_arg1
abbrev uTabLoc (d : Dev nD) : Loc nD τ sig := (SparseCore.T d).loc main_arg2
abbrev vTabLoc (d : Dev nD) : Loc nD τ sig := (SparseCore.T d).loc main_arg3
abbrev xLoc (d : Dev nD) : Loc nD τ sig := (SparseCore.T d).loc main_v4

variable (m : (ℓ : Loc nD τ sig) → Buf (Elt F) ℓ)

/-- Every row number the two index arrays hold names a row of its table. -/
def InRange : Prop :=
  ∀ d : Dev nD, (∀ j : S16384.Idx, (m (uIdxLoc d) j).toNat < 100000) ∧ ∀ j : S16384.Idx, (m (vIdxLoc d) j).toNat < 100000

/-! ## The value of the SparseCore call -/

/-- The row a word names (words out of range wrap; in range it is the word's own value). -/
def rowAt (w : BitVec 32) : Fin 100000 := ⟨w.toNat % 100000, Nat.mod_lt _ (by decide)⟩

theorem rowAt_val {w : BitVec 32} (h : w.toNat < 100000) : (rowAt w).val = w.toNat := Nat.mod_eq_of_lt h

/-- The two looked-up rows side by side. -/
def catRows {α : Type} (ui vi : S16384.Idx → BitVec 32) (ut vt : S100000x128.Idx → α) : S16384x256.Idx → α := fun j =>
  if h : (j 1).val < 128 then ut (ValueIdx.ix2 (rowAt (ui (ValueIdx.ix1 (j 0)))) ⟨(j 1).val, h⟩)
  else vt (ValueIdx.ix2 (rowAt (vi (ValueIdx.ix1 (j 0)))) ⟨(j 1).val - 128, by have := (j 1).isLt; change _ < 256 at this; omega⟩)

/-- `x` after the call, on device `d`. -/
def xVal (d : Dev nD) : Buf (Elt F) (xLoc d) := catRows (m (uIdxLoc d)) (m (vIdxLoc d)) (m (uTabLoc d)) (m (vTabLoc d))

end Cert.Proof.Two

end
-- ==== Proof.Tile.lean ====
/-
  One vector subcore's task: its two lists of row numbers are fetched, the rows they name are gathered in two halves from
  each table, and every half is written out to its block of `x`.
-/
module

public import proofs.«01_k».proof.Proof.Setup
public import Idealize.ShloMosaic.Lib.Pipeline.ValueKit.Geometry

@[expose] public section

noncomputable section

namespace Cert.Proof.Two

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uIdxM" => (Memref.whole Cert.KernelIdeal.main_arg0_scv : Memref Cert.KernelIdeal.sig Kind.scVector Space.hbm Cert.KernelIdeal.S16384 EltTy.i32)
local notation "vIdxM" => (Memref.whole Cert.KernelIdeal.main_arg1_scv : Memref Cert.KernelIdeal.sig Kind.scVector Space.hbm Cert.KernelIdeal.S16384 EltTy.i32)
local notation "uTabM" => (Memref.whole Cert.KernelIdeal.main_arg2_scv : Memref Cert.KernelIdeal.sig Kind.scVector Space.hbm Cert.KernelIdeal.S100000x128 EltTy.f32)
local notation "vTabM" => (Memref.whole Cert.KernelIdeal.main_arg3_scv : Memref Cert.KernelIdeal.sig Kind.scVector Space.hbm Cert.KernelIdeal.S100000x128 EltTy.f32)
local notation "xM" => (Memref.whole Cert.KernelIdeal.main_v4_scv : Memref Cert.KernelIdeal.sig Kind.scVector Space.hbm Cert.KernelIdeal.S16384x256 EltTy.f32)
local notation "uLstM" => (Memref.whole Cert.KernelIdeal.cc0_scratch0 : Memref Cert.KernelIdeal.sig Kind.scVector Space.vmem Cert.KernelIdeal.S512 EltTy.i32)
local notation "vLstM" => (Memref.whole Cert.KernelIdeal.cc0_scratch1 : Memref Cert.KernelIdeal.sig Kind.scVector Space.vmem Cert.KernelIdeal.S512 EltTy.i32)
local notation "bufA" => (Memref.whole Cert.KernelIdeal.cc0_scratch2 : Memref Cert.KernelIdeal.sig Kind.scVector Space.vmem Cert.KernelIdeal.S256x128 EltTy.f32)
local notation "bufB" => (Memref.whole Cert.KernelIdeal.cc0_scratch3 : Memref Cert.KernelIdeal.sig Kind.scVector Space.vmem Cert.KernelIdeal.S256x128 EltTy.f32)

variable (m : (ℓ : Loc nD τ sig) → Buf (Elt F) ℓ)

/-- The SparseCore and the subcore a task runs on. -/
abbrev coreOf (L : grid0.Coords) : Fin τ.nSC := (L 0).castLE hcore0
abbrev subOf (L : grid0.Coords) : Fin τ.nSub := (L 1).castLE hsub0
abbrev thrOf (d : Dev nD) (L : grid0.Coords) : Thread nD τ := V d (coreOf L) (subOf L)

/-- A task's part of an index array, and its four blocks of `x`: two halves of the rows (`r`), each in the first table's
    columns and in the second's. -/
abbrev uPart (L : grid0.Coords) : Memref sig .scVector .hbm S512 .i32 := (uIdxM).slice (Rect.unit (s := S16384) (k0_off1 L) S512.size (k0_off1_inb L)) (fun _ => rfl)
abbrev vPart (L : grid0.Coords) : Memref sig .scVector .hbm S512 .i32 := (vIdxM).slice (Rect.unit (s := S16384) (k0_off1 L) S512.size (k0_off1_inb L)) (fun _ => rfl)
abbrev uBlock (L : grid0.Coords) (r : Fin 2) : Memref sig .scVector .hbm S256x128 .f32 :=
  (xM).slice (Rect.unit (s := S16384x256) (k0_off2 L (BitVec.ofNat 32 (256 * r.val))) S256x128.size (k0_off2_inb L r)) (fun _ => rfl)
abbrev vBlock (L : grid0.Coords) (r : Fin 2) : Memref sig .scVector .hbm S256x128 .f32 :=
  (xM).slice (Rect.unit (s := S16384x256) (k0_off3 L (BitVec.ofNat 32 (256 * r.val))) S256x128.size (k0_off3_inb L r)) (fun _ => rfl)

/-- What a task reads: its lists of row numbers, and two read shares of each table (two gathers read one at once). -/
def taskReads (q₁ q₂ : PosShare TreeShare) (d : Dev nD) (L : grid0.Coords) : sProp 𝕄 :=
  iprop((uIdxLoc d ↦[(uPart L).view.set]{fullShare} m (uIdxLoc d)) ∗ (vIdxLoc d ↦[(vPart L).view.set]{fullShare} m (vIdxLoc d))
    ∗ (uTabLoc d ↦{q₁} m (uTabLoc d)) ∗ (uTabLoc d ↦{q₂} m (uTabLoc d))
    ∗ (vTabLoc d ↦{q₁} m (vTabLoc d)) ∗ (vTabLoc d ↦{q₂} m (vTabLoc d)))

/-- The four blocks a task writes, at contents `f` of `x`. -/
def taskBlocks (d : Dev nD) (L : grid0.Coords) (f : Buf (Elt F) (xLoc d)) : sProp 𝕄 :=
  iprop((xLoc d ↦[(uBlock L 0).view.set]{fullShare} f) ∗ (xLoc d ↦[(uBlock L 1).view.set]{fullShare} f)
    ∗ (xLoc d ↦[(vBlock L 0).view.set]{fullShare} f) ∗ (xLoc d ↦[(vBlock L 1).view.set]{fullShare} f))

variable [FloatOps F]

section Cells

abbrev cell (d : Dev nD) (L : grid0.Coords) (s : DmaSem sig) : GSem nD τ sig := (thrOf d L, .dma s)

end Cells

/-! ## Values -/

/-- An index of a window with unit strides, in the whole: the window's offset on. -/
theorem unit_emb {s : Shape} {off : Fin s.rank → ℕ} (size : Fin s.rank → ℕ) (inb : ∀ a, off a + size a ≤ s.size a)
    (y : (Rect.unit off size inb).shape.Idx) (a : Fin s.rank) {n : ℕ} (h : off a = n) : ((Rect.unit off size inb).emb y a).val = n + (y a).val :=
  (ValueKit.rect_emb_unit_val off size inb y a).trans (congrArg (· + (y a).val) h)

omit [FloatOps F] in
/-- A gathered row is the table's row of the list's word. -/
theorem gathered (tab : S100000x128.Idx → Elt F .f32) (lst : S256.Idx → BitVec 32)
    (hn : S256.numel = S256x128.size gathers_S100000x128_S256x128.axis')
    (h : ∀ x, (lst x).toNat < S100000x128.size gathers_S100000x128_S256x128.axis) (y : S256x128.Idx) :
    SparseCore.gatherPayload gathers_S100000x128_S256x128 tab (SparseCore.rows (F := F) lst hn h) y = tab (ValueIdx.ix2 (rowAt (lst (ValueIdx.ix1 (y 0)))) (y 1)) := by
  have hx : S256.rowMajor.symm ((y 0).cast hn.symm) = ValueIdx.ix1 (n := 256) (y 0) :=
    (S256.rowMajor.symm_apply_eq).2 (Fin.ext (Shape.rowMajor_val_one (d := ![256]) (ValueIdx.ix1 (n := 256) (y 0))).symm)
  refine congrArg tab (?_ : (_ : S100000x128.Idx) = _)
  funext a
  match a with
  | ⟨0, _⟩ =>
    refine (Shape.Gathers.idx_axis gathers_S100000x128_S256x128 _ y).trans (Fin.ext ?_)
    show (lst (S256.rowMajor.symm ((y 0).cast hn.symm))).toNat = (rowAt (lst (ValueIdx.ix1 (y 0)))).val
    rw [hx, rowAt_val (h _)]
  | ⟨1, _⟩ => exact Fin.ext (Shape.Gathers.idx_of_ne gathers_S100000x128_S256x128 _ y 1 (by decide))

omit [FloatOps F] in
/-- A view written whole with `p` holds `g` on its own elements, when `p` lists `g` there. -/
theorem writes_eq_on {s : Shape} {e : EltTy} (v : View sig .scVector .hbm s e) (f g : v.ty.Contents (Elt F)) (p : s.Idx → Elt F e)
    (hp : ∀ y, p y = v.read (Elt F) g y) : ∀ i ∈ v.set, v.writes (Elt F) f [⟨Rect.whole s, p⟩] i = g i := by
  intro i hi
  obtain ⟨y, -, rfl⟩ := Finset.mem_map.mp hi
  have e := (congrFun (View.read_writes_whole v f p) y).trans (hp y)
  rw [View.read_apply, View.read_apply] at e
  exact (cast_inj _).mp e

omit [FloatOps F] in
/-- A block in the first table's columns, written with the rows its words name, is at the call's value. -/
theorem uBlock_val (d : Dev nD) (L : grid0.Coords) (r : Fin 2) (f : Buf (Elt F) (xLoc d)) (lst : S256.Idx → BitVec 32)
    (hl : ∀ (x : S256.Idx) (j : S16384.Idx), (j 0).val = 1024 * (L 1).val + 512 * (L 0).val + 256 * r.val + (x 0).val → lst x = m (uIdxLoc d) j)
    (p : S256x128.Idx → Elt F .f32) (hp : ∀ y, p y = m (uTabLoc d) (ValueIdx.ix2 (rowAt (lst (ValueIdx.ix1 (y 0)))) (y 1))) :
    ((uBlock L r).view.loc (thrOf d L) ↦[(uBlock L r).view.set]{fullShare} (uBlock L r).view.writes (Elt F) f [⟨Rect.whole S256x128, p⟩] : sProp 𝕄)
      = xLoc d ↦[(uBlock L r).view.set]{fullShare} xVal m d := by
  refine pointsTo_congr (writes_eq_on (uBlock L r).view f (xVal m d) p fun y => ?_)
  have h0 : (((uBlock L r).view.emb y) 0).val = 1024 * (L 1).val + 512 * (L 0).val + 256 * r.val + (y 0).val :=
    unit_emb (s := S16384x256) S256x128.size (k0_off2_inb L r) y 0 (congrFun (k0_off2_eq L r) 0)
  have h1 : (((uBlock L r).view.emb y) 1).val = (y 1).val :=
    (unit_emb (s := S16384x256) S256x128.size (k0_off2_inb L r) y 1 (congrFun (k0_off2_eq L r) 1)).trans (Nat.zero_add _)
  have hy : (y 1).val < 128 := (y 1).isLt
  rw [hp, View.read_apply]
  refine Eq.trans ?_ (cast_eq _ _).symm
  show _ = catRows _ _ _ _ _
  unfold catRows
  rw [dif_pos (h1.trans_lt hy), hl (ValueIdx.ix1 (y 0)) (ValueIdx.ix1 (((uBlock L r).view.emb y) 0)) h0]
  congr 2
  exact Fin.ext h1.symm

omit [FloatOps F] in
/-- A block in the second table's columns, likewise. -/
theorem vBlock_val (d : Dev nD) (L : grid0.Coords) (r : Fin 2) (f : Buf (Elt F) (xLoc d)) (lst : S256.Idx → BitVec 32)
    (hl : ∀ (x : S256.Idx) (j : S16384.Idx), (j 0).val = 1024 * (L 1).val + 512 * (L 0).val + 256 * r.val + (x 0).val → lst x = m (vIdxLoc d) j)
    (p : S256x128.Idx → Elt F .f32) (hp : ∀ y, p y = m (vTabLoc d) (ValueIdx.ix2 (rowAt (lst (ValueIdx.ix1 (y 0)))) (y 1))) :
    ((vBlock L r).view.loc (thrOf d L) ↦[(vBlock L r).view.set]{fullShare} (vBlock L r).view.writes (Elt F) f [⟨Rect.whole S256x128, p⟩] : sProp 𝕄)
      = xLoc d ↦[(vBlock L r).view.set]{fullShare} xVal m d := by
  refine pointsTo_congr (writes_eq_on (vBlock L r).view f (xVal m d) p fun y => ?_)
  have h0 : (((vBlock L r).view.emb y) 0).val = 1024 * (L 1).val + 512 * (L 0).val + 256 * r.val + (y 0).val :=
    unit_emb (s := S16384x256) S256x128.size (k0_off3_inb L r) y 0 (congrFun (k0_off3_eq L r) 0)
  have h1 : (((vBlock L r).view.emb y) 1).val = 128 + (y 1).val :=
    unit_emb (s := S16384x256) S256x128.size (k0_off3_inb L r) y 1 (congrFun (k0_off3_eq L r) 1)
  rw [hp, View.read_apply]
  refine Eq.trans ?_ (cast_eq _ _).symm
  show _ = catRows _ _ _ _ _
  unfold catRows
  rw [dif_neg (by omega), hl (ValueIdx.ix1 (y 0)) (ValueIdx.ix1 (((vBlock L r).view.emb y) 0)) h0]
  congr 2
  exact Fin.ext (by show (y 1).val = _ - 128; omega)

omit [FloatOps F] in
/-- The words of a window (from `256 r` on) of a list of row numbers fetched whole are the index array's. -/
theorem uWord (d : Dev nD) (L : grid0.Coords) (r : ℕ) (f0 : (uLstM).view.ty.Contents (Elt F)) (inb : ∀ a, (![256 * r] : Fin 1 → ℕ) a + S256.size a ≤ S512.size a) (pf)
    (x : S256.Idx) (j : S16384.Idx) (hj : (j 0).val = 1024 * (L 1).val + 512 * (L 0).val + 256 * r + (x 0).val) :
    ((uLstM).slice (Rect.unit (s := S512) ![256 * r] S256.size inb) pf).view.read (Elt F)
      (View.write (Elt F) (uLstM).view f0 ((uPart L).view.read (Elt F) (m (uIdxLoc d))) Finset.univ) x = m (uIdxLoc d) j := by
  rw [View.write_whole_univ]
  refine congrArg (m (uIdxLoc d)) (funext fun a => ?_)
  match a with
  | ⟨0, _⟩ =>
    refine Fin.ext (Eq.trans ?_ hj.symm)
    refine (unit_emb (s := S16384) S512.size (k0_off1_inb L) ((Rect.unit (s := S512) ![256 * r] S256.size inb).emb x) 0 (congrFun (k0_off1_eq L) 0)).trans ?_
    refine (congrArg (1024 * (L 1).val + 512 * (L 0).val + ·) (unit_emb (s := S512) S256.size inb x 0 rfl)).trans ?_
    exact (Nat.add_assoc _ _ _).symm

omit [FloatOps F] in
theorem vWord (d : Dev nD) (L : grid0.Coords) (r : ℕ) (f0 : (vLstM).view.ty.Contents (Elt F)) (inb : ∀ a, (![256 * r] : Fin 1 → ℕ) a + S256.size a ≤ S512.size a) (pf)
    (x : S256.Idx) (j : S16384.Idx) (hj : (j 0).val = 1024 * (L 1).val + 512 * (L 0).val + 256 * r + (x 0).val) :
    ((vLstM).slice (Rect.unit (s := S512) ![256 * r] S256.size inb) pf).view.read (Elt F)
      (View.write (Elt F) (vLstM).view f0 ((vPart L).view.read (Elt F) (m (vIdxLoc d))) Finset.univ) x = m (vIdxLoc d) j := by
  rw [View.write_whole_univ]
  refine congrArg (m (vIdxLoc d)) (funext fun a => ?_)
  match a with
  | ⟨0, _⟩ =>
    refine Fin.ext (Eq.trans ?_ hj.symm)
    refine (unit_emb (s := S16384) S512.size (k0_off1_inb L) ((Rect.unit (s := S512) ![256 * r] S256.size inb).emb x) 0 (congrFun (k0_off1_eq L) 0)).trans ?_
    refine (congrArg (1024 * (L 1).val + 512 * (L 0).val + ·) (unit_emb (s := S512) S256.size inb x 0 rfl)).trans ?_
    exact (Nat.add_assoc _ _ _).symm

omit [FloatOps F] in
theorem uTab_all (f : (uTabM).view.ty.Contents (Elt F)) (pf) :
    ((uTabM).slice (Rect.unit (s := S100000x128) ![0, 0] S100000x128.size inb_S100000x128_S100000x128_0_0) pf).view.read (Elt F) f = f := by
  funext y
  refine congrArg f (?_ : (_ : S100000x128.Idx) = _)
  funext a
  refine Fin.ext ((unit_emb (s := S100000x128) (off := ![0, 0]) S100000x128.size inb_S100000x128_S100000x128_0_0 y a (n := 0) ?_).trans (Nat.zero_add _))
  match a with
  | ⟨0, _⟩ => rfl
  | ⟨1, _⟩ => rfl

omit [FloatOps F] in
theorem vTab_all (f : (vTabM).view.ty.Contents (Elt F)) (pf) :
    ((vTabM).slice (Rect.unit (s := S100000x128) ![0, 0] S100000x128.size inb_S100000x128_S100000x128_0_0) pf).view.read (Elt F) f = f := by
  funext y
  refine congrArg f (?_ : (_ : S100000x128.Idx) = _)
  funext a
  refine Fin.ext ((unit_emb (s := S100000x128) (off := ![0, 0]) S100000x128.size inb_S100000x128_S100000x128_0_0 y a (n := 0) ?_).trans (Nat.zero_add _))
  match a with
  | ⟨0, _⟩ => rfl
  | ⟨1, _⟩ => rfl

omit [FloatOps F] in
theorem read_bufA (f : (bufA).view.ty.Contents (Elt F)) (p : S256x128.Idx → Elt F .f32) (ps) :
    (bufA).view.read (Elt F) ((bufA).view.writes (Elt F) f (⟨Rect.whole S256x128, p⟩ :: ps)) = p := by
  rw [View.writes_cons]
  exact View.read_writes_whole _ _ _

omit [FloatOps F] in
theorem read_bufB (f : (bufB).view.ty.Contents (Elt F)) (p : S256x128.Idx → Elt F .f32) (ps) :
    (bufB).view.read (Elt F) ((bufB).view.writes (Elt F) f (⟨Rect.whole S256x128, p⟩ :: ps)) = p := by
  rw [View.writes_cons]
  exact View.read_writes_whole _ _ _

set_option maxHeartbeats 4000000 in
theorem task_run (d : Dev nD) (L : grid0.Coords) (q₁ q₂ : PosShare TreeShare) (hm : InRange m)
    (O : CellTallies nD τ sig (HIx 1)) (W : Waits sig (HIx 1)) (hO : ∀ g, O g none = 0) (f0 f1 f2 f3) :
    iprop(levAts (K (F := F)).L (K (F := F)).lev
        ∗ taskReads m q₁ q₂ d L ∗ taskBlocks d L (m (xLoc d))
        ∗ ((uLstM).view.loc (thrOf d L) ↦{fullShare} f0) ∗ ((vLstM).view.loc (thrOf d L) ↦{fullShare} f1)
        ∗ ((bufA).view.loc (thrOf d L) ↦{fullShare} f2) ∗ ((bufB).view.loc (thrOf d L) ↦{fullShare} f3)
        ∗ semVal (cell d L cc0_scratch4.sem) 0 ∗ semVal (cell d L cc0_scratch5.sem) 0 ∗ semVal (cell d L cc0_scratch6.sem) 0
        ∗ semVal (cell d L cc0_scratch7.sem) 0 ∗ semVal (cell d L cc0_scoped0.sem) 0 ∗ semVal (cell d L cc0_scoped1.sem) 0
        ∗ owes (thrOf d L) O W)
      ⊢ wp frame (wpE (defs₀ (F := F)) 𝒱₀ (thrOf d L) none) Set.univ
          (cc0__gather_body L uTabM (Memref.isWhole_whole _) vTabM (Memref.isWhole_whole _) uIdxM (Memref.isWhole_whole _)
            vIdxM (Memref.isWhole_whole _) xM (Memref.isWhole_whole _) uLstM (Memref.isWhole_whole _) vLstM (Memref.isWhole_whole _)
            bufA (Memref.isWhole_whole _) bufB (Memref.isWhole_whole _) cc0_scratch4 cc0_scratch5 cc0_scratch6 cc0_scratch7
            cc0_scoped0 cc0_scoped1)
          fun _ => iprop(taskReads m q₁ q₂ d L ∗ taskBlocks d L (xVal m d)
            ∗ (∃ f, (uLstM).view.loc (thrOf d L) ↦{fullShare} f) ∗ (∃ f, (vLstM).view.loc (thrOf d L) ↦{fullShare} f)
            ∗ (∃ f, (bufA).view.loc (thrOf d L) ↦{fullShare} f) ∗ (∃ f, (bufB).view.loc (thrOf d L) ↦{fullShare} f)
            ∗ semVal (cell d L cc0_scratch4.sem) 0 ∗ semVal (cell d L cc0_scratch5.sem) 0 ∗ semVal (cell d L cc0_scratch6.sem) 0
            ∗ semVal (cell d L cc0_scratch7.sem) 0 ∗ semVal (cell d L cc0_scoped0.sem) 0 ∗ semVal (cell d L cc0_scoped1.sem) 0
            ∗ ∃ W', ⌜∀ p ∈ W', p ∈ W ∨ p.2 = none⌝ ∗ owes (thrOf d L) O W') := by
  rw [cc0__gather_body_eq_skeleton]; unfold cc0__gather_body_skel
  rw [k0_part1_eq_skeleton]; unfold k0_part1_skel
  unfold taskReads taskBlocks
  iintro ⟨#Hlv, ⟨Hui, Hvi, Hut, Hut', Hvt, Hvt'⟩, ⟨Hx0, Hx1, Hx2, Hx3⟩, H0, H1, H2, H3, G0, G1, W0, W1, R0, R1, HO⟩
  ihave Hmw := (show levAts (K (F := F)).L (K (F := F)).lev ⊢ Transfers.MayWaits (thrOf d L) (default : HIx 1) O from
    (K (F := F)).mayWaits_none (thr := thrOf d L) hO) $$ Hlv
  ihave Hui := (Entails.of_eq (show (uIdxLoc d ↦[(uPart L).view.set]{fullShare} m (uIdxLoc d) : sProp 𝕄) = (uPart L).view.loc (thrOf d L) ↦[(uPart L).view.set]{fullShare} m (uIdxLoc d) from rfl)) $$ Hui
  ihave Hvi := (Entails.of_eq (show (vIdxLoc d ↦[(vPart L).view.set]{fullShare} m (vIdxLoc d) : sProp 𝕄) = (vPart L).view.loc (thrOf d L) ↦[(vPart L).view.set]{fullShare} m (vIdxLoc d) from rfl)) $$ Hvi
  ihave Hut := (Entails.of_eq (show (uTabLoc d ↦{q₁} m (uTabLoc d) : sProp 𝕄) = (uTabM).view.loc (thrOf d L) ↦{q₁} m (uTabLoc d) from rfl)) $$ Hut
  ihave Hut' := (Entails.of_eq (show (uTabLoc d ↦{q₂} m (uTabLoc d) : sProp 𝕄) = (uTabM).view.loc (thrOf d L) ↦{q₂} m (uTabLoc d) from rfl)) $$ Hut'
  ihave Hvt := (Entails.of_eq (show (vTabLoc d ↦{q₁} m (vTabLoc d) : sProp 𝕄) = (vTabM).view.loc (thrOf d L) ↦{q₁} m (vTabLoc d) from rfl)) $$ Hvt
  ihave Hvt' := (Entails.of_eq (show (vTabLoc d ↦{q₂} m (vTabLoc d) : sProp 𝕄) = (vTabM).view.loc (thrOf d L) ↦{q₂} m (vTabLoc d) from rfl)) $$ Hvt'
  ihave Hx0 := (Entails.of_eq (show (xLoc d ↦[(uBlock L 0).view.set]{fullShare} m (xLoc d) : sProp 𝕄) = (uBlock L 0).view.loc (thrOf d L) ↦[(uBlock L 0).view.set]{fullShare} m (xLoc d) from rfl)) $$ Hx0
  ihave Hx1 := (Entails.of_eq (show (xLoc d ↦[(uBlock L 1).view.set]{fullShare} m (xLoc d) : sProp 𝕄) = (uBlock L 1).view.loc (thrOf d L) ↦[(uBlock L 1).view.set]{fullShare} m (xLoc d) from rfl)) $$ Hx1
  ihave Hx2 := (Entails.of_eq (show (xLoc d ↦[(vBlock L 0).view.set]{fullShare} m (xLoc d) : sProp 𝕄) = (vBlock L 0).view.loc (thrOf d L) ↦[(vBlock L 0).view.set]{fullShare} m (xLoc d) from rfl)) $$ Hx2
  ihave Hx3 := (Entails.of_eq (show (xLoc d ↦[(vBlock L 1).view.set]{fullShare} m (xLoc d) : sProp 𝕄) = (vBlock L 1).view.loc (thrOf d L) ↦[(vBlock L 1).view.set]{fullShare} m (xLoc d) from rfl)) $$ Hx3
  sl_exec
  have hu : ∀ (off : Fin 1 → ℕ) (inb : ∀ a, off a + S256.size a ≤ S512.size a) pf x, (((uLstM).slice (Rect.unit (s := S512) off S256.size inb) pf).view.read (Elt F)
      (View.write (Elt F) (uLstM).view f0 (task_run.sl.dma0 m d L) Finset.univ) x).toNat < S100000x128.size gathers_S100000x128_S256x128.axis := by
    intro off inb pf x
    rw [View.write_whole_univ]
    exact (hm d).1 _
  have hv : ∀ (off : Fin 1 → ℕ) (inb : ∀ a, off a + S256.size a ≤ S512.size a) pf x, (((vLstM).slice (Rect.unit (s := S512) off S256.size inb) pf).view.read (Elt F)
      (View.write (Elt F) (vLstM).view f1 (task_run.sl.dma0_1 m d L) Finset.univ) x).toNat < S100000x128.size gathers_S100000x128_S256x128.axis := by
    intro off inb pf x
    rw [View.write_whole_univ]
    exact (hm d).2 _
  have hu0 := hu ![0] inb_S512_S256_0 k0_part1_skel._proof_4
  have hu1 := hu ![256] inb_S512_S256_256 cc0__gather_body_skel._proof_10
  have hv0 := hv ![0] inb_S512_S256_0 k0_part1_skel._proof_4
  have hv1 := hv ![256] inb_S512_S256_256 cc0__gather_body_skel._proof_10
  clear hu hv
  sl_exec
  ihave Hx0 := (Entails.of_eq (uBlock_val m d L 0 (m (xLoc d)) _ (uWord m d L 0 f0 inb_S512_S256_0 k0_part1_skel._proof_4) (task_run.sl.dma0_2 m d L f0 f2 hu0) fun y =>
    (congrFun (read_bufA f2 _ []) y).trans ((gathered _ _ _ hu0 y).trans (congrFun (uTab_all (m (uTabLoc d)) _) _)))) $$ Hx0
  ihave Hx1 := (Entails.of_eq (uBlock_val m d L 1 (m (xLoc d)) _ (uWord m d L 1 f0 inb_S512_S256_256 cc0__gather_body_skel._proof_10) (task_run.sl.dma0_3 m d L f0 f3 hu1) fun y =>
    (congrFun (read_bufB f3 _ []) y).trans ((gathered _ _ _ hu1 y).trans (congrFun (uTab_all (m (uTabLoc d)) _) _)))) $$ Hx1
  ihave Hx2 := (Entails.of_eq (vBlock_val m d L 0 (m (xLoc d)) _ (vWord m d L 0 f1 inb_S512_S256_0 k0_part1_skel._proof_4) (task_run.sl.dma0_4 m d L f0 f1 f2 hu0 hv0) fun y =>
    (congrFun (read_bufA f2 _ _) y).trans ((gathered _ _ _ hv0 y).trans (congrFun (vTab_all (m (vTabLoc d)) _) _)))) $$ Hx2
  ihave Hx3 := (Entails.of_eq (vBlock_val m d L 1 (m (xLoc d)) _ (vWord m d L 1 f1 inb_S512_S256_256 cc0__gather_body_skel._proof_10) (task_run.sl.dma0_5 m d L f0 f1 f3 hu1 hv1) fun y =>
    (congrFun (read_bufB f3 _ _) y).trans ((gathered _ _ _ hv1 y).trans (congrFun (vTab_all (m (vTabLoc d)) _) _)))) $$ Hx3
  sl_step
  isplitl [Hui Hvi Hut Hut' Hvt Hvt']
  · isplitl [Hui]; · iexact Hui
    isplitl [Hvi]; · iexact Hvi
    isplitl [Hut]; · iexact Hut
    isplitl [Hut']; · iexact Hut'
    isplitl [Hvt]; · iexact Hvt
    iexact Hvt'
  isplitl [Hx0 Hx1 Hx2 Hx3]
  · isplitl [Hx0]; · iexact Hx0
    isplitl [Hx1]; · iexact Hx1
    isplitl [Hx2]; · iexact Hx2
    iexact Hx3
  isplitl [H0]; · iexists _; iexact H0
  isplitl [H1]; · iexists _; iexact H1
  isplitl [H2]; · iexists _; iexact H2
  isplitl [H3]; · iexists _; iexact H3
  isplitl [G0]; · iexact G0
  isplitl [G1]; · iexact G1
  isplitl [W0]; · iexact W0
  isplitl [W1]; · iexact W1
  isplitl [R0]; · iexact R0
  isplitl [R1]; · iexact R1
  iexists _; isplitr
  swap; · iexact HO
  ipureintro; intro p hp
  repeat (rcases Finset.mem_insert.mp hp with hp | hp; · exact .inr (hp ▸ rfl))
  exact .inl hp

end Cert.Proof.Two

end
-- ==== Proof.Call.lean ====
/-
  The SparseCore call as a whole: what each task is handed and gives back, the tasks' obligation, and the arrays the call
  takes cut into the tasks' parts (and joined again).
-/
module

public import proofs.«01_k».proof.Proof.Tile

@[expose] public section

noncomputable section

namespace Cert.Proof.Two

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a task owns: its subcore's counters and buffers -/

/-- The six counters the task's transfers complete on, taken out of the subcore's. -/
def taskSems : Finset (DmaSem sig) :=
  {cc0_scratch4.sem, cc0_scratch5.sem, cc0_scratch6.sem, cc0_scratch7.sem, cc0_scoped0.sem, cc0_scoped1.sem}

def cellEmb (d : Dev nD) (L : grid0.Coords) : DmaSem sig ↪ GSem nD τ sig := ⟨cell d L, fun a b h => SemLoc.dma.inj (Prod.mk.inj h).2⟩

theorem taskSems_own (d : Dev nD) (L : grid0.Coords) : taskSems.map (cellEmb d L) ⊆ ownCells (thrOf d L) := by
  intro g hg
  obtain ⟨s, hs, rfl⟩ := Finset.mem_map.mp hg
  refine mem_ownCells.mpr ⟨rfl, ?_⟩
  exact (by decide : ∀ s ∈ taskSems, (SemLoc.dma s : SemLoc sig).isScoped .scVector = true) s hs

theorem ownSems0_task (d : Dev nD) (L : grid0.Coords) :
    (ownSems0 (thrOf d L) : sProp 𝕄)
      = iprop((semVal (cell d L cc0_scratch4.sem) 0 ∗ semVal (cell d L cc0_scratch5.sem) 0 ∗ semVal (cell d L cc0_scratch6.sem) 0
          ∗ semVal (cell d L cc0_scratch7.sem) 0 ∗ semVal (cell d L cc0_scoped0.sem) 0 ∗ semVal (cell d L cc0_scoped1.sem) 0)
        ∗ bigSep (ownCells (thrOf d L) \ taskSems.map (cellEmb d L)) fun g => semVal g 0) := by
  unfold SparseCore.Cfg.ownSems0
  rw [SparseCore.bigSep_sdiff_split' (taskSems_own d L), bigSep_map]
  unfold taskSems
  rw [SparseCore.bigSep_insert' (by decide), SparseCore.bigSep_insert' (by decide), SparseCore.bigSep_insert' (by decide),
    SparseCore.bigSep_insert' (by decide), SparseCore.bigSep_insert' (by decide), bigSep_singleton]
  rfl

/-- The task's two lists and two row buffers, taken out of the subcore's. -/
def taskRefs : Finset (Ref sig .scVector) := {cc0_scratch0, cc0_scratch1, cc0_scratch2, cc0_scratch3}

def refEmb (L : grid0.Coords) : Ref sig .scVector ↪ DevRef τ sig :=
  ⟨Proc.devRef (sig := sig) (.scVector (coreOf L) (subOf L) : Proc τ), Proc.devRef_injective _⟩

theorem taskRefs_own (L : grid0.Coords) : taskRefs.map (refEmb L) ⊆ ownRefs (.scVector (coreOf L) (subOf L)) := by
  intro b hb
  obtain ⟨r, hr, rfl⟩ := Finset.mem_map.mp hb
  refine SparseCore.Cfg.mem_ownRefs_of_owner ?_
  simp only [taskRefs, Finset.mem_insert, Finset.mem_singleton] at hr
  rcases hr with rfl | rfl | rfl | rfl <;> rfl

theorem ownBufs_task (d : Dev nD) (L : grid0.Coords) :
    (ownBufs (thrOf d L) : sProp 𝕄)
      = iprop(((∃ f, (thrOf d L).loc cc0_scratch0 ↦{fullShare} f) ∗ (∃ f, (thrOf d L).loc cc0_scratch1 ↦{fullShare} f)
          ∗ (∃ f, (thrOf d L).loc cc0_scratch2 ↦{fullShare} f) ∗ (∃ f, (thrOf d L).loc cc0_scratch3 ↦{fullShare} f))
        ∗ bigSep (ownRefs (.scVector (coreOf L) (subOf L)) \ taskRefs.map (refEmb L)) fun b => iprop(∃ f, ((d, b) : Loc nD τ sig) ↦{fullShare} f)) := by
  unfold SparseCore.Cfg.ownBufs
  refine (SparseCore.bigSep_sdiff_split' (taskRefs_own L)).trans ?_
  rw [bigSep_map]
  unfold taskRefs
  rw [SparseCore.bigSep_insert' (by decide), SparseCore.bigSep_insert' (by decide), SparseCore.bigSep_insert' (by decide), bigSep_singleton]
  rfl

/-! ## Read shares of the tables -/

/-- A task's share of a table (dealt over the cores, then the subcores), and its two halves for the two gathers. -/
def taskShare (c : Fin 2) (i : Fin 16) (k : Fin 2) : PosShare TreeShare :=
  Transfers.dealOf (Transfers.dealOf (Transfers.dealOf fullShare Finset.univ c) Finset.univ i) Finset.univ k

def coordsOf (c : Fin 2) (i : Fin 16) : grid0.Coords :=
  fun | 0 => c | 1 => i | ⟨_ + 2, h⟩ => absurd h (Nat.not_lt.2 (Nat.le_add_left _ _))

/-- What task `(c, i)` is handed: what it reads, and its blocks of `x` at contents `f`. -/
def taskPay (d : Dev nD) (c : Fin 2) (i : Fin 16) (f : Buf (Elt F) (xLoc d)) : sProp 𝕄 :=
  iprop(taskReads m (taskShare c i 0) (taskShare c i 1) d (coordsOf c i) ∗ taskBlocks d (coordsOf c i) f)

instance taskPay_storable (d : Dev nD) (c : Fin 2) (i : Fin 16) (f : Buf (Elt F) (xLoc d)) :
    BI.Storable (upEmb : UEmb _ 𝕄) (taskPay m d c i f) := by
  unfold taskPay taskReads taskBlocks; infer_instance

variable [FloatOps F]

def P : (K (F := F)).Pay (nD := nD) (Val := Elt F) (Name := ℕ) (U := UU) where
  st := fun q d c => match q with | 0 => bigSep Finset.univ fun i => taskPay m d c i (m (xLoc d))
  dn := fun q d c => match q with | 0 => bigSep Finset.univ fun i => taskPay m d c i (xVal m d)
  go := fun q d c i => match q with | 0 => taskPay m d c i (m (xLoc d))
  td := fun q d c i => match q with | 0 => taskPay m d c i (xVal m d)
  x := fun _ _ => iprop(emp)

instance P_storable : (P (F := F) m).IsStorable where
  st q d c := match q with
    | 0 => (inferInstance : BI.Storable (upEmb : UEmb _ 𝕄) (bigSep Finset.univ fun i : Fin 16 => taskPay m d c i (m (xLoc d))))
  dn q d c := match q with
    | 0 => (inferInstance : BI.Storable (upEmb : UEmb _ 𝕄) (bigSep Finset.univ fun i : Fin 16 => taskPay m d c i (xVal m d)))
  go q d c i := match q with | 0 => taskPay_storable m d c i _
  td q d c i := match q with | 0 => taskPay_storable m d c i _

/-! ## The tasks' obligation -/

set_option maxHeartbeats 1000000 in
theorem tile_body (d : Dev nD) (c : Fin 2) (i : Fin 16) (hm : InRange m) (O : CellTallies nD τ sig (HIx 1)) (W : Waits sig (HIx 1))
    (hO : ∀ g, O g none = 0) :
    iprop(levAts (K (F := F)).L (K (F := F)).lev ∗ emp ∗ taskPay m d c i (m (xLoc d))
        ∗ scopedBufs (thrOf d (coordsOf c i)) ∗ scopedSems0 (thrOf d (coordsOf c i)) ∗ owes (thrOf d (coordsOf c i)) O W)
      ⊢ wp frame (wpE (defs₀ (F := F)) 𝒱₀ (thrOf d (coordsOf c i)) none) Set.univ
          (cc0__gather_body (coordsOf c i) (Memref.whole main_arg2_scv) (Memref.isWhole_whole _) (Memref.whole main_arg3_scv) (Memref.isWhole_whole _)
            (Memref.whole main_arg0_scv) (Memref.isWhole_whole _) (Memref.whole main_arg1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          fun _ => iprop(taskPay m d c i (xVal m d) ∗ scopedBufs (thrOf d (coordsOf c i)) ∗ scopedSems0 (thrOf d (coordsOf c i))
            ∗ ∃ W', ⌜∀ p ∈ W', p ∈ W ∨ p.2 = none ∨ p.2 = some 0⌝ ∗ owes (thrOf d (coordsOf c i)) O W') := by
  rw [(K (F := F)).scopedBufs_V scFacts d (coreOf (coordsOf c i)) (subOf (coordsOf c i)),
    SparseCore.Cfg.scopedSems0_V (Val := Elt F) d (coreOf (coordsOf c i)) (subOf (coordsOf c i)), ownSems0_task, ownBufs_task]
  unfold taskPay
  iintro ⟨Hlv, -, ⟨Hr, Hx⟩, ⟨⟨⟨%f0, H0⟩, ⟨%f1, H1⟩, ⟨%f2, H2⟩, ⟨%f3, H3⟩⟩, Hbufs⟩, ⟨⟨G0, G1, W0, W1, R0, R1⟩, Hsems⟩, HO⟩
  iapply (wp_wand_r frame _ _)
  isplitl [Hlv Hr Hx H0 H1 H2 H3 G0 G1 W0 W1 R0 R1 HO]
  · iapply (task_run m d (coordsOf c i) (taskShare c i 0) (taskShare c i 1) hm O W hO f0 f1 f2 f3)
    isplitl [Hlv]; · iexact Hlv
    isplitl [Hr]; · iexact Hr
    isplitl [Hx]; · iexact Hx
    isplitl [H0]; · iexact H0
    isplitl [H1]; · iexact H1
    isplitl [H2]; · iexact H2
    isplitl [H3]; · iexact H3
    isplitl [G0]; · iexact G0
    isplitl [G1]; · iexact G1
    isplitl [W0]; · iexact W0
    isplitl [W1]; · iexact W1
    isplitl [R0]; · iexact R0
    isplitl [R1]; · iexact R1
    iexact HO
  iintro %_ ⟨Hr, Hx, H0, H1, H2, H3, G0, G1, W0, W1, R0, R1, %W', %hW', HO⟩
  isplitl [Hr Hx]
  · isplitl [Hr]; · iexact Hr
    iexact Hx
  isplitl [H0 H1 H2 H3 Hbufs]
  · isplitr [Hbufs]
    · isplitl [H0]; · iexact H0
      isplitl [H1]; · iexact H1
      isplitl [H2]; · iexact H2
      iexact H3
    · iexact Hbufs
  isplitr [HO]
  · isplitr [Hsems]
    · isplitl [G0]; · iexact G0
      isplitl [G1]; · iexact G1
      isplitl [W0]; · iexact W0
      isplitl [W1]; · iexact W1
      isplitl [R0]; · iexact R0
      iexact R1
    · iexact Hsems
  iexists W'; isplitr
  · ipureintro; exact fun p hp => (hW' p hp).imp_right Or.inl
  · iexact HO

theorem defs₀_task (c : Fin τ.nSC) (s : Fin τ.nSub) :
    defs₀ (F := F) (.scVector c s) 0 ()
      = SparseCore.onTile hcore0 hsub0 (fun c s => cc0__gather_body (coordsOf c s) (Memref.whole main_arg2_scv) (Memref.isWhole_whole _)
            (Memref.whole main_arg3_scv) (Memref.isWhole_whole _)
            (Memref.whole main_arg0_scv) (Memref.isWhole_whole _) (Memref.whole main_arg1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          ⟨⟩ c s := rfl

set_option maxRecDepth 16384 in
theorem tileObl (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact tile_body m d ⟨_, hci.1⟩ ⟨_, hci.2⟩ hm O W hO

theorem vecSplit : (K (F := F)).VecSplit' (P m) 0 := by
  intro d c
  show (bigSep Finset.univ fun i : Fin 16 => taskPay m d c i (m (xLoc d)))
    ⊢ |={Set.univ}=> iprop((bigSep Finset.univ fun i : Fin 16 => taskPay m d c i (m (xLoc d)))
      ∗ ((bigSep Finset.univ fun i : Fin 16 => taskPay m d c i (xVal m d)) -∗ bigSep Finset.univ fun i : Fin 16 => taskPay m d c i (xVal m d)))
  iintro H; imodintro
  isplitl [H]; · iexact H
  iintro H; iexact H

end Cert.Proof.Two

end
-- ==== Proof.Split.lean ====
/-
  The arrays the SparseCore call takes, cut into the tasks' parts: each index array into 32 parts of 512 words, `x` into
  128 blocks of 256 rows and 128 columns, each table into read shares.
-/
module

public import proofs.«01_k».proof.Proof.Call

@[expose] public section

noncomputable section

namespace Cert.Proof.Two

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}

local notation "𝕄" => MT nD τ sig (HIx 1) (Elt F) ℕ UU ℕ

variable (m : (ℓ : Loc nD τ sig) → Buf (Elt F) ℓ)

/-! ## Regrouping -/

theorem sep_four (A B C D : sProp 𝕄) : iprop((A ∗ B) ∗ C ∗ D) = iprop(A ∗ B ∗ C ∗ D) := by
  have h : iprop((A ∗ B) ∗ C ∗ D) ⊢ iprop(A ∗ B ∗ C ∗ D) := by
    iintro ⟨⟨A, B⟩, C, D⟩
    isplitl [A]; · iexact A
    isplitl [B]; · iexact B
    isplitl [C]; · iexact C
    iexact D
  have h' : iprop(A ∗ B ∗ C ∗ D) ⊢ iprop((A ∗ B) ∗ C ∗ D) := by
    iintro ⟨A, B, C, D⟩
    isplitl [A B]
    · isplitl [A]; · iexact A
      iexact B
    isplitl [C]; · iexact C
    iexact D
  exact BI.Entails.antisymm h h'

theorem sep_seven (A B C C' D D' E : sProp 𝕄) :
    iprop(A ∗ B ∗ (C ∗ C') ∗ (D ∗ D') ∗ E) = iprop((A ∗ B ∗ C ∗ C' ∗ D ∗ D') ∗ E) := by
  have h : iprop(A ∗ B ∗ (C ∗ C') ∗ (D ∗ D') ∗ E) ⊢ iprop((A ∗ B ∗ C ∗ C' ∗ D ∗ D') ∗ E) := by
    iintro ⟨A, B, ⟨C, C'⟩, ⟨D, D'⟩, E⟩
    isplitr [E]
    · isplitl [A]; · iexact A
      isplitl [B]; · iexact B
      isplitl [C]; · iexact C
      isplitl [C']; · iexact C'
      isplitl [D]; · iexact D
      iexact D'
    · iexact E
  have h' : iprop((A ∗ B ∗ C ∗ C' ∗ D ∗ D') ∗ E) ⊢ iprop(A ∗ B ∗ (C ∗ C') ∗ (D ∗ D') ∗ E) := by
    iintro ⟨⟨A, B, C, C', D, D'⟩, E⟩
    isplitl [A]; · iexact A
    isplitl [B]; · iexact B
    isplitl [C C']
    · isplitl [C]; · iexact C
      iexact C'
    isplitl [D D']
    · isplitl [D]; · iexact D
      iexact D'
    iexact E
  exact BI.Entails.antisymm h h'

/-! ## Cutting by a key -/

/-- A buffer held whole is its elements' held class by class, whatever the classes. -/
theorem pts_classes {κ : Type} [Fintype κ] [DecidableEq κ] {ℓ : Loc nD τ sig} (q : PosShare TreeShare) (f : Buf (Elt F) ℓ) (key : Idx ℓ → κ) :
    (ℓ ↦{q} f : sProp 𝕄) = bigSep Finset.univ fun t => ℓ ↦[Finset.univ.filter fun i => key i = t]{q} f := by
  have hd : ∀ t ∈ (Finset.univ : Finset κ), ∀ t' ∈ (Finset.univ : Finset κ), t ≠ t' →
      Disjoint (Finset.univ.filter fun i => key i = t) (Finset.univ.filter fun i => key i = t') := fun t _ t' _ h =>
    Finset.disjoint_left.mpr fun i hi hi' => h ((Finset.mem_filter.mp hi).2.symm.trans (Finset.mem_filter.mp hi').2)
  have hc : (Finset.univ : Finset κ).biUnion (fun t => Finset.univ.filter fun i => key i = t) = Finset.univ := by
    ext i; simp
  rw [← pointsTo_biUnion Finset.univ (fun t => Finset.univ.filter fun i => key i = t) hd, hc]

/-- Classes numbered by a task and, within the task, by something more. -/
theorem bigSep_tasks (Φ : (Fin 2 × Fin 16) → sProp 𝕄) :
    bigSep Finset.univ Φ = bigSep Finset.univ fun c : Fin 2 => bigSep Finset.univ fun i : Fin 16 => Φ (c, i) :=
  bigSep_univ_prod Φ

/-! ## The index arrays -/

/-- The task word `j` of an index array belongs to. -/
def wordTask (j : S16384.Idx) : Fin 2 × Fin 16 :=
  (⟨(j 0).val / 512 % 2, Nat.mod_lt _ (by decide)⟩, ⟨(j 0).val / 1024, by have := (j 0).isLt; change _ < 16384 at this; omega⟩)

theorem mem_part (c : Fin 2) (i : Fin 16) (j : S16384.Idx) :
    j ∈ (Rect.unit (s := S16384) (k0_off1 (coordsOf c i)) S512.size (k0_off1_inb (coordsOf c i))).set ↔ wordTask j = (c, i) := by
  have hj : (j 0).val < 16384 := (j 0).isLt
  have hc := c.isLt
  have hi := i.isLt
  have e : k0_off1 (coordsOf c i) 0 = 1024 * i.val + 512 * c.val := congrFun (k0_off1_eq (coordsOf c i)) 0
  rw [Rect.mem_set_unit, wordTask, Prod.mk.injEq, Fin.ext_iff, Fin.ext_iff]
  constructor
  · intro h
    have h0 := h 0
    rw [e] at h0
    change _ ∧ _ < _ + 512 at h0
    show (j 0).val / 512 % 2 = c.val ∧ (j 0).val / 1024 = i.val
    omega
  · intro h a
    match a with
    | ⟨0, _⟩ =>
      change k0_off1 (coordsOf c i) 0 ≤ (j 0).val ∧ (j 0).val < k0_off1 (coordsOf c i) 0 + 512
      change (j 0).val / 512 % 2 = c.val ∧ (j 0).val / 1024 = i.val at h
      omega

theorem uPart_set (c : Fin 2) (i : Fin 16) : (uPart (coordsOf c i)).view.set = Finset.univ.filter fun j => wordTask j = (c, i) := by
  ext j
  exact (ValueKit.mem_set_slice_whole_iff main_arg0_scv _ j (mem_part c i j)).trans (by simp)

theorem vPart_set (c : Fin 2) (i : Fin 16) : (vPart (coordsOf c i)).view.set = Finset.univ.filter fun j => wordTask j = (c, i) := by
  ext j
  exact (ValueKit.mem_set_slice_whole_iff main_arg1_scv _ j (mem_part c i j)).trans (by simp)

theorem uIdx_parts (d : Dev nD) (f : Buf (Elt F) (uIdxLoc d)) :
    (uIdxLoc d ↦{fullShare} f : sProp 𝕄)
      = bigSep Finset.univ fun c : Fin 2 => bigSep Finset.univ fun i : Fin 16 => uIdxLoc d ↦[(uPart (coordsOf c i)).view.set]{fullShare} f := by
  rw [pts_classes fullShare f wordTask, bigSep_tasks]
  exact bigSep_congr fun c _ => bigSep_congr fun i _ => by rw [uPart_set]; rfl

theorem vIdx_parts (d : Dev nD) (f : Buf (Elt F) (vIdxLoc d)) :
    (vIdxLoc d ↦{fullShare} f : sProp 𝕄)
      = bigSep Finset.univ fun c : Fin 2 => bigSep Finset.univ fun i : Fin 16 => vIdxLoc d ↦[(vPart (coordsOf c i)).view.set]{fullShare} f := by
  rw [pts_classes fullShare f wordTask, bigSep_tasks]
  exact bigSep_congr fun c _ => bigSep_congr fun i _ => by rw [vPart_set]; rfl

/-! ## The tables -/

theorem table_shares {ℓ : Loc nD τ sig} (f : Buf (Elt F) ℓ) :
    (ℓ ↦{fullShare} f : sProp 𝕄)
      = bigSep Finset.univ fun c : Fin 2 => bigSep Finset.univ fun i : Fin 16 =>
          iprop((ℓ ↦{taskShare c i 0} f) ∗ (ℓ ↦{taskShare c i 1} f)) := by
  rw [Transfers.pointsTo_deal (ℓ := ℓ) (f := f) (Finset.univ : Finset (Fin 2)) Finset.univ_nonempty fullShare]
  refine bigSep_congr fun c _ => ?_
  rw [Transfers.pointsTo_deal (ℓ := ℓ) (f := f) (Finset.univ : Finset (Fin 16)) Finset.univ_nonempty _]
  refine bigSep_congr fun i _ => ?_
  rw [Transfers.pointsTo_deal (ℓ := ℓ) (f := f) (Finset.univ : Finset (Fin 2)) Finset.univ_nonempty _, bigSep_fin_two]
  rfl

/-! ## The result -/

/-- The task element `j` of `x` belongs to, and in the task its half of the columns and of the rows. -/
def elemTask (j : S16384x256.Idx) : (Fin 2 × Fin 16) × Fin 2 × Fin 2 :=
  ((⟨(j 0).val / 512 % 2, Nat.mod_lt _ (by decide)⟩, ⟨(j 0).val / 1024, by have := (j 0).isLt; change _ < 16384 at this; omega⟩),
    ⟨(j 1).val / 128, by have := (j 1).isLt; change _ < 256 at this; omega⟩, ⟨(j 0).val / 256 % 2, Nat.mod_lt _ (by decide)⟩)

/-- The block of `x` at 256-row step `r` of task `(c, i)`, columns from `128 h` on, is one class of elements. -/
theorem mem_block (c : Fin 2) (i : Fin 16) (h r : Fin 2) (off : Fin 2 → ℕ) (inb : ∀ a, off a + S256x128.size a ≤ S16384x256.size a)
    (e : off = ![1024 * i.val + 512 * c.val + 256 * r.val, 128 * h.val]) (j : S16384x256.Idx) :
    j ∈ (Rect.unit (s := S16384x256) off S256x128.size inb).set ↔ elemTask j = ((c, i), h, r) := by
  subst e
  have hj : (j 0).val < 16384 := (j 0).isLt
  have hj1 : (j 1).val < 256 := (j 1).isLt
  have hc := c.isLt
  have hi := i.isLt
  have hh := h.isLt
  have hr := r.isLt
  rw [Rect.mem_set_unit, elemTask, Prod.mk.injEq, Prod.mk.injEq, Prod.mk.injEq, Fin.ext_iff, Fin.ext_iff, Fin.ext_iff, Fin.ext_iff]
  show (∀ a, _) ↔ ((j 0).val / 512 % 2 = c.val ∧ (j 0).val / 1024 = i.val) ∧ (j 1).val / 128 = h.val ∧ (j 0).val / 256 % 2 = r.val
  constructor
  · intro hm
    have h0 := hm 0
    have h1 := hm 1
    change 1024 * i.val + 512 * c.val + 256 * r.val ≤ (j 0).val ∧ (j 0).val < 1024 * i.val + 512 * c.val + 256 * r.val + 256 at h0
    change 128 * h.val ≤ (j 1).val ∧ (j 1).val < 128 * h.val + 128 at h1
    omega
  · intro hm a
    match a with
    | ⟨0, _⟩ =>
      show 1024 * i.val + 512 * c.val + 256 * r.val ≤ (j 0).val ∧ (j 0).val < 1024 * i.val + 512 * c.val + 256 * r.val + 256
      omega
    | ⟨1, _⟩ =>
      show 128 * h.val ≤ (j 1).val ∧ (j 1).val < 128 * h.val + 128
      omega

theorem uBlock_set (c : Fin 2) (i : Fin 16) (r : Fin 2) :
    (uBlock (coordsOf c i) r).view.set = Finset.univ.filter fun j => elemTask j = ((c, i), 0, r) := by
  ext j
  exact (ValueKit.mem_set_slice_whole_iff main_v4_scv _ j (mem_block c i 0 r _ (k0_off2_inb (coordsOf c i) r) (k0_off2_eq (coordsOf c i) r) j)).trans
    (by simp)

theorem vBlock_set (c : Fin 2) (i : Fin 16) (r : Fin 2) :
    (vBlock (coordsOf c i) r).view.set = Finset.univ.filter fun j => elemTask j = ((c, i), 1, r) := by
  ext j
  exact (ValueKit.mem_set_slice_whole_iff main_v4_scv _ j (mem_block c i 1 r _ (k0_off3_inb (coordsOf c i) r) (k0_off3_eq (coordsOf c i) r) j)).trans
    (by simp)

theorem x_blocks (d : Dev nD) (f : Buf (Elt F) (xLoc d)) :
    (xLoc d ↦{fullShare} f : sProp 𝕄)
      = bigSep Finset.univ fun c : Fin 2 => bigSep Finset.univ fun i : Fin 16 => taskBlocks d (coordsOf c i) f := by
  rw [pts_classes fullShare f elemTask, bigSep_univ_prod, bigSep_tasks]
  refine bigSep_congr fun c _ => bigSep_congr fun i _ => ?_
  rw [bigSep_univ_prod, bigSep_fin_two, bigSep_fin_two, bigSep_fin_two]
  unfold taskBlocks
  rw [uBlock_set, uBlock_set, vBlock_set, vBlock_set]
  exact sep_four _ _ _ _

/-! ## All of the call's arrays -/

theorem call_arrays (d : Dev nD) (f : Buf (Elt F) (xLoc d)) :
    iprop((uIdxLoc d ↦{fullShare} m (uIdxLoc d)) ∗ (vIdxLoc d ↦{fullShare} m (vIdxLoc d)) ∗ (uTabLoc d ↦{fullShare} m (uTabLoc d))
        ∗ (vTabLoc d ↦{fullShare} m (vTabLoc d)) ∗ (xLoc d ↦{fullShare} f))
      = (bigSep Finset.univ fun c : Fin 2 => bigSep Finset.univ fun i : Fin 16 => taskPay m d c i f : sProp 𝕄) := by
  rw [uIdx_parts, vIdx_parts, table_shares (m (uTabLoc d)), table_shares (m (vTabLoc d)), x_blocks]
  rw [← bigSep_sep', ← bigSep_sep', ← bigSep_sep', ← bigSep_sep']
  refine bigSep_congr fun c _ => ?_
  rw [← bigSep_sep', ← bigSep_sep', ← bigSep_sep', ← bigSep_sep']
  refine bigSep_congr fun i _ => ?_
  unfold taskPay taskReads
  exact sep_seven _ _ _ _ _ _ _

end Cert.Proof.Two

end
-- ==== Proof.Region.lean ====
/-
  The dense layers on the TensorCore: one run of the kernel body at a grid point, and the region of two grid points around it,
  entered with the arrays at any contents and left with the result array holding the layers' value of them.
-/
module

public import proofs.«01_k».proof.Proof.Setup
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.ValueKit.Geometry

@[expose] public section

noncomputable section

namespace Cert.Proof.Two

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type}

local notation "𝕄" => MT nD τ sig (HIx 1) (Elt F) ℕ UU ℕ

/-! ## One grid point -/

/-- An index of a whole buffer taken as a rectangle is itself. -/
theorem whole_emb {s : Shape} {off : Fin s.rank → ℕ} (inb : ∀ a, off a + s.size a ≤ s.size a) (h0 : ∀ a, off a = 0) (y : s.Idx) :
    (Rect.unit off s.size inb).emb y = y :=
  funext fun a => Fin.ext ((ValueKit.rect_emb_unit_val off s.size inb y a).trans (by rw [h0 a, Nat.zero_add]))

/-- A load of a whole buffer reads the buffer. -/
theorem readAt_full {κ : Kind} {sp : Space} {s : Shape} {e : EltTy} (v : View sig κ sp s e) {off : Fin s.rank → ℕ}
    (inb : ∀ a, off a + s.size a ≤ s.size a) (h0 : ∀ a, off a = 0) (f : v.ty.Contents (Elt F)) :
    v.readAt (Elt F) (Rect.unit off s.size inb).toLoadRect f = v.read (Elt F) f :=
  funext fun y => congrArg (v.read (Elt F) f) (whole_emb inb h0 y)

theorem zeros2 : ∀ a : Fin 2, (![0, 0] : Fin 2 → ℕ) a = 0 := by decide
theorem zeros3 : ∀ a : Fin 3, (![0, 0, 0] : Fin 3 → ℕ) a = 0 := by decide

section Body

variable [FloatOps F] [∀ e, Nonempty (Elt F e)]

/-- One run of the body on whole buffers: the inputs are given back as they were, and the result's buffer reads as the
    layers' value of what the inputs' buffers read as. -/
theorem body_run (c : Dev nD) (i : grid1.Coords)
    (M₀ : Memref sig .tc .vmem S8192x256 .f32) (h₀ : M₀.IsWhole) (M₁ : Memref sig .tc .vmem S256x64 .f32) (h₁ : M₁.IsWhole)
    (M₂ : Memref sig .tc .vmem S1x64 .f32) (h₂ : M₂.IsWhole) (M₃ : Memref sig .tc .vmem S64x32 .f32) (h₃ : M₃.IsWhole)
    (M₄ : Memref sig .tc .vmem S1x32 .f32) (h₄ : M₄.IsWhole) (M₅ : Memref sig .tc .vmem S1x32 .f32) (h₅ : M₅.IsWhole)
    (M₆ : Memref sig .tc .vmem S1x1 .f32) (h₆ : M₆.IsWhole) (M₇ : Memref sig .tc .vmem S1x1x8192 .f32) (h₇ : M₇.IsWhole)
    (X₀ : S8192x256.Idx → F .f32) (X₁ : S256x64.Idx → F .f32) (X₂ : S1x64.Idx → F .f32) (X₃ : S64x32.Idx → F .f32)
    (X₄ X₅ : S1x32.Idx → F .f32) (X₆ : S1x1.Idx → F .f32) (X₇ : S1x1x8192.Idx → F .f32) (Q : PUnit → sProp 𝕄) :
    iprop(owns (c : Thread nD τ) M₀ fullShare X₀ ∗ owns (c : Thread nD τ) M₁ fullShare X₁ ∗ owns (c : Thread nD τ) M₂ fullShare X₂
        ∗ owns (c : Thread nD τ) M₃ fullShare X₃ ∗ owns (c : Thread nD τ) M₄ fullShare X₄ ∗ owns (c : Thread nD τ) M₅ fullShare X₅
        ∗ owns (c : Thread nD τ) M₆ fullShare X₆ ∗ owns (c : Thread nD τ) M₇ fullShare X₇
        ∗ (iprop(owns (c : Thread nD τ) M₀ fullShare X₀ ∗ owns (c : Thread nD τ) M₁ fullShare X₁ ∗ owns (c : Thread nD τ) M₂ fullShare X₂
            ∗ owns (c : Thread nD τ) M₃ fullShare X₃ ∗ owns (c : Thread nD τ) M₄ fullShare X₄ ∗ owns (c : Thread nD τ) M₅ fullShare X₅
            ∗ owns (c : Thread nD τ) M₆ fullShare X₆ ∗ owns (c : Thread nD τ) M₇ fullShare (k1_pay1 X₀ X₁ X₂ X₃ X₄ X₅ X₆)) -∗ Q ⟨⟩))
      ⊢ wp frame (wpE (defs₀ (F := F)) 𝒱₀ (c : Thread nD τ) none) Set.univ
          (cc1__mlp_body i M₀ h₀ M₁ h₁ M₂ h₂ M₃ h₃ M₄ h₄ M₅ h₅ M₆ h₆ M₇ h₇) Q := by
  rw [cc1__mlp_body_eq_skeleton]
  unfold cc1__mlp_body_skel
  unfold owns
  iintro ⟨⟨%f₀, %e₀, H₀⟩, ⟨%f₁, %e₁, H₁⟩, ⟨%f₂, %e₂, H₂⟩, ⟨%f₃, %e₃, H₃⟩, ⟨%f₄, %e₄, H₄⟩, ⟨%f₅, %e₅, H₅⟩, ⟨%f₆, %e₆, H₆⟩, ⟨%f₇, %e₇, H₇⟩, Hk⟩
  subst e₀ e₁ e₂ e₃ e₄ e₅ e₆
  sl_exec!
  sl_step
  iapply Hk
  isplitl [H₀]; · iexists f₀; isplitr; · ipureintro; rfl
                  iexact H₀
  isplitl [H₁]; · iexists f₁; isplitr; · ipureintro; rfl
                  iexact H₁
  isplitl [H₂]; · iexists f₂; isplitr; · ipureintro; rfl
                  iexact H₂
  isplitl [H₃]; · iexists f₃; isplitr; · ipureintro; rfl
                  iexact H₃
  isplitl [H₄]; · iexists f₄; isplitr; · ipureintro; rfl
                  iexact H₄
  isplitl [H₅]; · iexists f₅; isplitr; · ipureintro; rfl
                  iexact H₅
  isplitl [H₆]; · iexists f₆; isplitr; · ipureintro; rfl
                  iexact H₆
  iexists _
  isplitr; swap
  · iexact H₇
  ipureintro
  refine (View.read_writes_junk_eq_canon _ _).trans (funext fun y => ?_)
  unfold body_run.sl.H₇_1
  refine (congrArg _ (whole_emb inb_S1x1x8192_S1x1x8192_0_0_0 zeros3 y).symm).trans ((View.canon_cons_emb _ _ _ _).trans ?_)
  rw [readAt_full _ _ zeros2, readAt_full _ _ zeros2, readAt_full _ _ zeros2, readAt_full _ _ zeros2, readAt_full _ _ zeros2,
    readAt_full _ _ zeros2, readAt_full _ _ zeros2]

/-! ## The region of two grid points -/

variable (V : Dev nD → Valuation τ sig (Elt F))

/-- What the fetch of window `w` at point `t` puts in its buffer, the arrays at `V`. -/
abbrev staged (c : Dev nD) (w : Fin 8) (t : Fin grid1.N) :=
  ((cfg1.win w).blk t).view.read (Elt F) (V c (Proc.devRef .tc (Pipeline.arrRef spec1 w)))

/-- The layers' value of the blocks fetched at point `t`. -/
def scores (c : Dev nD) (t : Fin grid1.N) : S1x1x8192.Idx → F .f32 :=
  k1_pay1 (staged V c 0 t) (staged V c 1 t) (staged V c 2 t) (staged V c 3 t) (staged V c 4 t) (staged V c 5 t) (staged V c 6 t)

/-- What the region's rule is told: the arrays at `V`; the inputs' buffers keep what was fetched, the result's holds the
    layers' value; nothing else is held and nothing is owed. -/
def dat (c : Dev nD) : Dat τ (Elt F) (HIx 1) ℕ UU ℕ cfg1 c where
  A w := V c (Proc.devRef .tc (Pipeline.arrRef spec1 w))
  after w t := match w with
    | ⟨0, _⟩ => staged V c 0 t
    | ⟨1, _⟩ => staged V c 1 t
    | ⟨2, _⟩ => staged V c 2 t
    | ⟨3, _⟩ => staged V c 3 t
    | ⟨4, _⟩ => staged V c 4 t
    | ⟨5, _⟩ => staged V c 5 t
    | ⟨6, _⟩ => staged V c 6 t
    | ⟨7, _⟩ => scores V c t
  Φ _ := BI.emp
  q _ := fullShare
  owed _ := 0

theorem before_0 (c : Dev nD) (t : Fin grid1.N) (d) : (dat V c).before 0 t d = staged V c 0 t :=
  (dat V c).before_in_eq_fetched 0 rfl (fun _ => rfl) (fun _ _ _ => rfl) (fun _ => by dsimp only [dat]; rfl) t d
theorem before_1 (c : Dev nD) (t : Fin grid1.N) (d) : (dat V c).before 1 t d = staged V c 1 t :=
  (dat V c).before_in_eq_fetched 1 rfl (fun _ => rfl) (fun _ _ _ => rfl) (fun _ => by dsimp only [dat]; rfl) t d
theorem before_2 (c : Dev nD) (t : Fin grid1.N) (d) : (dat V c).before 2 t d = staged V c 2 t :=
  (dat V c).before_in_eq_fetched 2 rfl (fun _ => rfl) (fun _ _ _ => rfl) (fun _ => by dsimp only [dat]; rfl) t d
theorem before_3 (c : Dev nD) (t : Fin grid1.N) (d) : (dat V c).before 3 t d = staged V c 3 t :=
  (dat V c).before_in_eq_fetched 3 rfl (fun _ => rfl) (fun _ _ _ => rfl) (fun _ => by dsimp only [dat]; rfl) t d
theorem before_4 (c : Dev nD) (t : Fin grid1.N) (d) : (dat V c).before 4 t d = staged V c 4 t :=
  (dat V c).before_in_eq_fetched 4 rfl (fun _ => rfl) (fun _ _ _ => rfl) (fun _ => by dsimp only [dat]; rfl) t d
theorem before_5 (c : Dev nD) (t : Fin grid1.N) (d) : (dat V c).before 5 t d = staged V c 5 t :=
  (dat V c).before_in_eq_fetched 5 rfl (fun _ => rfl) (fun _ _ _ => rfl) (fun _ => by dsimp only [dat]; rfl) t d
theorem before_6 (c : Dev nD) (t : Fin grid1.N) (d) : (dat V c).before 6 t d = staged V c 6 t :=
  (dat V c).before_in_eq_fetched 6 rfl (fun _ => rfl) (fun _ _ _ => rfl) (fun _ => by dsimp only [dat]; rfl) t d

theorem body_obligation (c : Dev nD) : BodyObligation (dat V c) (defs₀ (F := F)) 𝒱₀ none Set.univ := fun t => by
  rw [bigSep_W1, bigSep_W1]
  iintro ⟨HΦ, Howes, ⟨%d₀, H₀⟩, ⟨%d₁, H₁⟩, ⟨%d₂, H₂⟩, ⟨%d₃, H₃⟩, ⟨%d₄, H₄⟩, ⟨%d₅, H₅⟩, ⟨%d₆, H₆⟩, ⟨%d₇, H₇⟩⟩
  rw [before_0, before_1, before_2, before_3, before_4, before_5, before_6]
  refine BIBase.Entails.trans ?_ (body_run c (grid1.coords t)
    (st1_0 t) (hstage1_0 ((cfg1.slots t 0).cast nbuf1_0))
    (st1_1 t) (hstage1_1 ((cfg1.slots t 1).cast nbuf1_1))
    (st1_2 t) (hstage1_2 ((cfg1.slots t 2).cast nbuf1_2))
    (st1_3 t) (hstage1_3 ((cfg1.slots t 3).cast nbuf1_3))
    (st1_4 t) (hstage1_4 ((cfg1.slots t 4).cast nbuf1_4))
    (st1_5 t) (hstage1_5 ((cfg1.slots t 5).cast nbuf1_5))
    (st1_6 t) (hstage1_6 ((cfg1.slots t 6).cast nbuf1_6))
    (st1_7 t) (hstage1_7 ((cfg1.slots t 7).cast nbuf1_7))
    (staged V c 0 t) (staged V c 1 t) (staged V c 2 t) (staged V c 3 t) (staged V c 4 t) (staged V c 5 t) (staged V c 6 t) ((dat V c).before 7 t d₇) _)
  iintro ⟨⟨⟨⟨⟨⟨⟨⟨⟨HΦ, Howes⟩, H₀⟩, H₁⟩, H₂⟩, H₃⟩, H₄⟩, H₅⟩, H₆⟩, H₇⟩
  isplitl [H₀]; · iexact H₀
  isplitl [H₁]; · iexact H₁
  isplitl [H₂]; · iexact H₂
  isplitl [H₃]; · iexact H₃
  isplitl [H₄]; · iexact H₄
  isplitl [H₅]; · iexact H₅
  isplitl [H₆]; · iexact H₆
  isplitl [H₇]; · iexact H₇
  iintro ⟨H₀, H₁, H₂, H₃, H₄, H₅, H₆, H₇⟩
  dsimp only [dat]
  isplitl [HΦ]; · iexact HΦ
  isplitl [Howes]; · iexact Howes
  isplitl [H₀]; · iexact H₀
  isplitl [H₁]; · iexact H₁
  isplitl [H₂]; · iexact H₂
  isplitl [H₃]; · iexact H₃
  isplitl [H₄]; · iexact H₄
  isplitl [H₅]; · iexact H₅
  isplitl [H₆]; · iexact H₆
  iexact H₇

/-! ### The region, entered and left -/

/-- The pipeline's rounds in the program's ghost state. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- No table is prefetched: the one choice there is. -/
abbrev adm : (p : Fin 1) → (pcfgs (F := F) p).Adm := fun p => (cfgs p).toPCfg_adm

/-- The cells' ghost state the region takes. -/
abbrev regionGhost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

def pdats : (p : Fin 1) → (c : Dev nD) → Dat τ (Elt F) (HIx 1) ℕ UU ℕ (Pipeline.pin (pcfgs (F := F)) adm p) c
  | ⟨0, _⟩ => fun c => dat V c

theorem levelCut : Pipeline.LevelCut (nD := nD) (τ := τ) (pcfgs (F := F)) adm none (K (F := F)).L (K (F := F)).lev 0 (fun _ => 0) (fun _ => 0) where
  hι _ _ _ := Finset.mem_univ _
  hιb _ _ _ := le_refl 0
  hD _ _ _ h := absurd h (lt_irrefl 0)

/-- The region over the TensorCore's arrays held at `V`, nothing else passing through. -/
def reg : Pipeline.RegionSeg (pcfgs (F := F)) adm (pdats V) none (defs₀ (F := F)) 𝒱₀ (K (F := F)).L (K (F := F)).lev 0 :=
  Pipeline.RegionSeg.ofHeldIn (pcfgs (F := F)) adm (pdats V) none defs₀ 𝒱₀ (K (F := F)).L (K (F := F)).lev 0 (fun _ => 0)
    (Pipeline.ucRefs τ sig) (fun _ => BI.emp) (fun _ => BI.emp) launch1.toP rfl (fun c => (body_obligation V c).loose)
    (fun _ _ => rfl) (fun _ => rfl) (fun c => (dat V c).share_full fun _ => rfl)
    (fun c => by
      show iprop(Pipeline.scopedRest spec1 c ∗ BI.emp) ⊢ BI.emp
      rw [scopedRest1_eq]; iintro -; iempintro)
    (fun c => by
      show BI.emp ⊢ iprop(Pipeline.scopedRest spec1 c ∗ BI.emp)
      rw [scopedRest1_eq]; iintro -; isplitl <;> iempintro)
    (fun _ => 0) levelCut (fun _ => BI.emp) V (fun _ _ => rfl)

theorem arrays_sub : Pipeline.arrRefs (τ := τ) (pcfgs (F := F) 0).spec ⊆ Pipeline.ucRefs τ sig :=
  Pipeline.arrRefs_sub_ucRefs _ fun w => winFacts1.arr_unscoped w

/-- What the region takes is the arrays at `V c` and a free hand for signals. -/
theorem reg_pre (c : Dev nD) :
    iprop(StableHlo.held (c : Thread nD τ) (Pipeline.ucRefs τ sig) (V c) ∗ ∃ W, owes (c : Thread nD τ) (0 : CellTallies nD τ sig (HIx 1)) W)
      ⊢ (reg V).pre c := by
  refine BIBase.Entails.trans ?_ (Pipeline.RegionSeg.ofHeldIn_pre arrays_sub c)
  iintro ⟨Hh, HO⟩
  isplitl [Hh]
  · iexact Hh
  isplitl [HO]
  · iexact HO
  isplitl <;> iempintro

/-- What it leaves is the arrays, its output written, and the same hand. -/
theorem reg_post (c : Dev nD) :
    (reg V).post c ⊢ iprop(StableHlo.held (c : Thread nD τ) (Pipeline.ucRefs τ sig) (Pipeline.afterRegion (dat V c) (V c))
      ∗ ∃ W, owes (c : Thread nD τ) (0 : CellTallies nD τ sig (HIx 1)) W) := by
  refine BIBase.Entails.trans (Pipeline.RegionSeg.ofHeldIn_post arrays_sub c) ?_
  iintro ⟨Hh, HO, -⟩
  isplitl [Hh]
  · iexact Hh
  · iexact HO

/-- The region's call on core `c`: from its arrays at `V c` to its arrays as the region leaves them. -/
theorem region_wp (c : Dev nD) (Q : PUnit → sProp 𝕄) :
    iprop((iprop(boundary (c : Thread nD τ) ∗ StableHlo.held (c : Thread nD τ) (Pipeline.ucRefs τ sig) (Pipeline.afterRegion (dat V c) (V c))
          ∗ ∃ W, owes (c : Thread nD τ) (0 : CellTallies nD τ sig (HIx 1)) W) -∗ Q ⟨⟩)
        ∗ boundary (c : Thread nD τ) ∗ StableHlo.held (c : Thread nD τ) (Pipeline.ucRefs τ sig) (V c)
        ∗ (∃ W, owes (c : Thread nD τ) (0 : CellTallies nD τ sig (HIx 1)) W)
        ∗ levAts (K (F := F)).L (K (F := F)).lev ∗ regionGhost (F := F) c)
      ⊢ wp frame (wpE (D (F := F)) 𝒱 (c : Thread nD τ) none) Set.univ
          (.op (.customCall (Pipeline.entry 0) ()) fun _ => .ret ⟨⟩) Q := by
  iintro ⟨Hk, Hb, Hh, HO, HL, HG, HT⟩
  iapply (Pipeline.RegionSeg.wp (pcfgs (F := F)) adm (pdats V) none cellOf_inj (EP (F := F)) defs₀ 𝒱₀ (K (F := F)).L (K (F := F)).lev (reg V) c none
    (fun _ h => nomatch h) (fun _ => .ret ⟨⟩) Q)
  isplitl [Hk]
  · iintro ⟨Hb, Hp⟩
    rw [wp_ret]
    imodintro
    iapply Hk
    isplitl [Hb]
    · iexact Hb
    ihave H := (reg_post V c) $$ Hp
    iexact H
  isplitl [Hb]
  · iexact Hb
  isplitl [Hh HO]
  · iapply (reg_pre V c)
    isplitl [Hh]
    · iexact Hh
    · iexact HO
  isplitl [HL]
  · iexact HL
  isplitl [HG]
  · iexact HG
  · iexact HT

end Body

end Cert.Proof.Two

end
-- ==== Proof.Out.lean ====
/-
  The array of scores after the TensorCore's region.

  At grid point `t` the region reads rows `8192 t … 8192 t + 8191` of the gathered array and the six whole arrays of
  parameters, and writes line `t` of the scores. The two lines are the whole array.
-/
module

public import proofs.«01_k».proof.Proof.Region

@[expose] public section

open Idealize Idealize.SL Idealize.ShloMosaic Idealize.ShloMosaic.TcCoe Idealize.ShloMosaic.Tactic
open Idealize.ShloMosaic.Pipeline (Dat)
open Cert.KernelIdeal Cert.KernelIdeal.Gen

noncomputable section

namespace Cert.Proof.Two

variable {F : FTy → Type} [FloatOps F]

/-- Half `b` of the rows. -/
def half {α : Type} (X : S16384x256.Idx → α) (b : Fin 2) : S8192x256.Idx → α :=
  fun y => X (ValueIdx.ix2 ⟨b.val * 8192 + (y 0).val, by have := (y 0).isLt; change _ < 8192 at this; have := b.isLt; omega⟩ (y 1))

/-- The scores of the rows of `X`, line by line. -/
def lines (X : S16384x256.Idx → F .f32) (W₁ : S256x64.Idx → F .f32) (b₁ : S1x64.Idx → F .f32) (W₂ : S64x32.Idx → F .f32)
    (b₂ W₃ : S1x32.Idx → F .f32) (b₃ : S1x1.Idx → F .f32) : S2x1x8192.Idx → F .f32 :=
  fun j => k1_pay1 (half X (j 0)) W₁ b₁ W₂ b₂ W₃ b₃ (ValueIdx.ix3 0 0 (j 2))

variable [∀ e, Nonempty (Elt F e)] (V : Dev nD → Valuation τ sig (Elt F))

theorem index_0 : ∀ t : Fin cfg1.N, win1_0.index t = ![t.val, 0] := (by decide +kernel : ∀ t : Fin grid1.N, _)
theorem index_7 : ∀ t : Fin cfg1.N, win1_7.index t = ![t.val, 0, 0] := (by decide +kernel : ∀ t : Fin grid1.N, _)

theorem staged_0 (c : Dev nD) (t : Fin grid1.N) : staged V c 0 t = half (V c (Proc.devRef .tc main_v4)) ⟨t.val, t.isLt⟩ := by
  funext y
  show V c (Proc.devRef .tc main_v4) _ = V c (Proc.devRef .tc main_v4) _
  congr 1
  blk_ext [index_0]

/-! The other inputs' windows are their whole arrays. -/

theorem index_1 : ∀ t : Fin cfg1.N, win1_1.index t = ![0, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_6 : ∀ t : Fin cfg1.N, win1_6.index t = ![0, 0] := (by decide +kernel : ∀ t : Fin grid1.N, _)

theorem staged_1 (c : Dev nD) (t : Fin grid1.N) : staged V c 1 t = V c (Proc.devRef .tc main_arg4) :=
  funext fun y => congrArg (V c (Proc.devRef .tc main_arg4)) (by blk_ext [index_1])
theorem staged_2 (c : Dev nD) (t : Fin grid1.N) : staged V c 2 t = V c (Proc.devRef .tc main_v0) :=
  funext fun y => congrArg (V c (Proc.devRef .tc main_v0)) (by blk_ext [index_2])
theorem staged_3 (c : Dev nD) (t : Fin grid1.N) : staged V c 3 t = V c (Proc.devRef .tc main_arg6) :=
  funext fun y => congrArg (V c (Proc.devRef .tc main_arg6)) (by blk_ext [index_3])
theorem staged_4 (c : Dev nD) (t : Fin grid1.N) : staged V c 4 t = V c (Proc.devRef .tc main_v1) :=
  funext fun y => congrArg (V c (Proc.devRef .tc main_v1)) (by blk_ext [index_4])
theorem staged_5 (c : Dev nD) (t : Fin grid1.N) : staged V c 5 t = V c (Proc.devRef .tc main_v2) :=
  funext fun y => congrArg (V c (Proc.devRef .tc main_v2)) (by blk_ext [index_5])
theorem staged_6 (c : Dev nD) (t : Fin grid1.N) : staged V c 6 t = V c (Proc.devRef .tc main_v3) :=
  funext fun y => congrArg (V c (Proc.devRef .tc main_v3)) (by blk_ext [index_6])

/-- The place of the block's element `y` in the array of scores. -/
theorem place_7 (t : Fin cfg1.N) (y : S1x1x8192.Idx) : (win1_7.blk t).view.emb y = (ValueIdx.ix3 ⟨t.val, t.isLt⟩ 0 (y 2) : S2x1x8192.Idx) := by
  blk_ext [index_7]

theorem arrAt_7 (c : Dev nD) : (dat V c).arrAt 7 cfg1.N
    = lines (V c (Proc.devRef .tc main_v4)) (V c (Proc.devRef .tc main_arg4)) (V c (Proc.devRef .tc main_v0)) (V c (Proc.devRef .tc main_arg6))
        (V c (Proc.devRef .tc main_v1)) (V c (Proc.devRef .tc main_v2)) (V c (Proc.devRef .tc main_v3)) := by
  refine (dat V c).arrAt_eq_of_covers 7 _ (by decide +kernel) fun t hf y => ?_
  rw [show ((cfg1.win 7).blk t).view.emb y = (ValueIdx.ix3 ⟨t.val, t.isLt⟩ 0 (y 2) : S2x1x8192.Idx) from place_7 t y]
  show scores V c t y = k1_pay1 _ _ _ _ _ _ _ (ValueIdx.ix3 0 0 (y 2))
  unfold scores
  rw [staged_0, staged_1, staged_2, staged_3, staged_4, staged_5, staged_6]
  exact congrArg _ (by funext a; match a with | ⟨0, _⟩ => exact Subsingleton.elim (α := Fin 1) _ _ | ⟨1, _⟩ => exact Subsingleton.elim (α := Fin 1) _ _ | ⟨2, _⟩ => rfl)

end Cert.Proof.Two

end
-- ==== Proof.Main.lean ====
/-
  The whole run of the program: the host's reshapes, the SparseCore call, the TensorCore's region, the last reshape; and
  the launch of all its threads.
-/
module

public import proofs.«01_k».proof.Proof.Split
public import proofs.«01_k».proof.Proof.Out
public import Idealize.ShloMosaic.Lib.SparseCore.Quiescent
public import Idealize.ShloMosaic.Lib.StableHlo.Run

@[expose] public section

noncomputable section

namespace Cert.Proof.Two

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The TensorCore's arrays, step by step -/

/-- The reshapes before the SparseCore call. -/
abbrev flat₀ : HloOp τ sig (Elt F) := StableHlo.reshape main_arg5 main_v0 (rfl : (.f32 : EltTy) = .f32) shapeCasts_S64_S1x64
abbrev flat₁ : HloOp τ sig (Elt F) := StableHlo.reshape main_arg7 main_v1 (rfl : (.f32 : EltTy) = .f32) shapeCasts_S32_S1x32
abbrev flat₂ : HloOp τ sig (Elt F) := StableHlo.reshape main_arg8 main_v2 (rfl : (.f32 : EltTy) = .f32) shapeCasts_S32x1_S1x32
abbrev flat₃ : HloOp τ sig (Elt F) := StableHlo.reshape main_arg9 main_v3 (rfl : (.f32 : EltTy) = .f32) shapeCasts_S1_S1x1

def prep : List (HloOp τ sig (Elt F)) := [flat₀, flat₁, flat₂, flat₃]

/-- The reshape after the region. -/
def last : HloOp τ sig (Elt F) :=
  StableHlo.reshape main_v5 main_v6 (rfl : (.f32 : EltTy) = .f32) shapeCasts_S2x1x8192_S16384

/-- The arrays when the SparseCore is called, when it is done, when the region is done, and at the end. -/
def val₁ (d : Dev nD) : Valuation τ sig (Elt F) := StableHlo.after prep fun b => m (d, b)
def val₂ (d : Dev nD) : Valuation τ sig (Elt F) := Function.update (val₁ m d) (Proc.devRef .tc main_v4) (xVal m d)
def val₃ (d : Dev nD) : Valuation τ sig (Elt F) := Pipeline.afterRegion (dat (val₂ m) d) (val₂ m d)
def val₄ (d : Dev nD) : Valuation τ sig (Elt F) := last.result (val₃ m d)

/-- An array no reshape writes is the launch's when the SparseCore is called. -/
theorem val₁_kept (d : Dev nD) (r : Ref sig .tc) (hr : r ∉ [main_v0, main_v1, main_v2, main_v3]) :
    val₁ m d (Proc.devRef .tc r) = m (d, Proc.devRef .tc r) :=
  StableHlo.after_of_writes_sub prep _ (StableHlo.forall_writes_sub_of_map (W := [main_v0, main_v1, main_v2, main_v3]) rfl) hr

theorem val₂_x (d : Dev nD) : val₂ m d (Proc.devRef .tc main_v4) = xVal m d := Function.update_self _ _ _

theorem val₂_other (d : Dev nD) (b : DevRef τ sig) (hb : b ≠ Proc.devRef .tc main_v4) : val₂ m d b = val₁ m d b :=
  Function.update_of_ne hb _ _

/-- An array nothing writes is the launch's at the end. -/
theorem val₄_kept (d : Dev nD) (r : Ref sig .tc) (hr : r ∉ [main_v0, main_v1, main_v2, main_v3, main_v4, main_v5, main_v6]) :
    val₄ m d (Proc.devRef .tc r) = m (d, Proc.devRef .tc r) := by
  simp only [List.mem_cons, List.not_mem_nil, or_false, not_or] at hr
  obtain ⟨h0, h1, h2, h3, h4, h5, h6⟩ := hr
  unfold val₄ last
  rw [StableHlo.reshape_result_ne _ _ _ _ _ _ _ h6]
  refine (Pipeline.afterRegion_keeps (dat (val₂ m) d) (val₂ m d) launch1.win.arr_inj (fun _ => rfl) r fun w hw => ?_).trans ?_
  · match w, hw with
    | ⟨0, _⟩, _ | ⟨1, _⟩, _ | ⟨2, _⟩, _ | ⟨3, _⟩, _ | ⟨4, _⟩, _ | ⟨5, _⟩, _ | ⟨6, _⟩, _ => rfl
    | ⟨7, _⟩, hw => exact absurd hw.symm h5
  rw [val₂_other m d _ (StableHlo.devRef_ne_of_ne h4)]
  exact val₁_kept m d r (by simp only [List.mem_cons, List.not_mem_nil, or_false, not_or]; exact ⟨h0, h1, h2, h3⟩)

abbrev outLoc (d : Dev nD) : Loc nD τ sig := (SparseCore.T d).loc main_v6

/-- The scores at the end, of the launch's arrays. -/
def outVal (d : Dev nD) : Buf (Elt F) (outLoc d) :=
  shapeCast S16384 (lines (xVal m d) (m (d, Proc.devRef .tc main_arg4))
    (shapeCast S1x64 (m (d, Proc.devRef .tc main_arg5)) shapeCasts_S64_S1x64) (m (d, Proc.devRef .tc main_arg6))
    (shapeCast S1x32 (m (d, Proc.devRef .tc main_arg7)) shapeCasts_S32_S1x32)
    (shapeCast S1x32 (m (d, Proc.devRef .tc main_arg8)) shapeCasts_S32x1_S1x32)
    (shapeCast S1x1 (m (d, Proc.devRef .tc main_arg9)) shapeCasts_S1_S1x1)) shapeCasts_S2x1x8192_S16384

theorem val₂_v0 (d : Dev nD) : val₂ m d (Proc.devRef .tc main_v0) = shapeCast S1x64 (m (d, Proc.devRef .tc main_arg5)) shapeCasts_S64_S1x64 := by
  rw [val₂_other m d _ (StableHlo.devRef_ne_of_ne (by decide))]; unfold val₁ prep; after_results; rfl
theorem val₂_v1 (d : Dev nD) : val₂ m d (Proc.devRef .tc main_v1) = shapeCast S1x32 (m (d, Proc.devRef .tc main_arg7)) shapeCasts_S32_S1x32 := by
  rw [val₂_other m d _ (StableHlo.devRef_ne_of_ne (by decide))]; unfold val₁ prep; after_results; rfl
theorem val₂_v2 (d : Dev nD) : val₂ m d (Proc.devRef .tc main_v2) = shapeCast S1x32 (m (d, Proc.devRef .tc main_arg8)) shapeCasts_S32x1_S1x32 := by
  rw [val₂_other m d _ (StableHlo.devRef_ne_of_ne (by decide))]; unfold val₁ prep; after_results; rfl
theorem val₂_v3 (d : Dev nD) : val₂ m d (Proc.devRef .tc main_v3) = shapeCast S1x1 (m (d, Proc.devRef .tc main_arg9)) shapeCasts_S1_S1x1 := by
  rw [val₂_other m d _ (StableHlo.devRef_ne_of_ne (by decide))]; unfold val₁ prep; after_results; rfl
theorem val₂_arg (d : Dev nD) (r : Ref sig .tc) (hr : r ∉ [main_v0, main_v1, main_v2, main_v3, main_v4]) :
    val₂ m d (Proc.devRef .tc r) = m (d, Proc.devRef .tc r) := by
  simp only [List.mem_cons, List.not_mem_nil, or_false, not_or] at hr
  obtain ⟨h0, h1, h2, h3, h4⟩ := hr
  rw [val₂_other m d _ (StableHlo.devRef_ne_of_ne h4)]
  exact val₁_kept m d r (by simp only [List.mem_cons, List.not_mem_nil, or_false, not_or]; exact ⟨h0, h1, h2, h3⟩)

theorem val₄_out (d : Dev nD) : val₄ m d (Proc.devRef .tc main_v6) = outVal m d := by
  have h : val₃ m d (Proc.devRef .tc main_v5) = _ := (Pipeline.afterRegion_arr (dat (val₂ m) d) (val₂ m d) launch1.win.arr_inj 7).trans (arrAt_7 (val₂ m) d)
  unfold val₄ last
  rw [StableHlo.reshape_result]
  show shapeCast S16384 (val₃ m d (Proc.devRef .tc main_v5)) shapeCasts_S2x1x8192_S16384 = _
  rw [h, val₂_x, val₂_v0, val₂_v1, val₂_v2, val₂_v3, val₂_arg m d main_arg4 (by decide), val₂_arg m d main_arg6 (by decide)]
  rfl

/-! ## The call's arrays out of the TensorCore's, and back -/

/-- The arrays the SparseCore call takes. -/
def callRefs : Finset (DevRef τ sig) :=
  {Proc.devRef .tc main_arg0, Proc.devRef .tc main_arg1, Proc.devRef .tc main_arg2, Proc.devRef .tc main_arg3, Proc.devRef .tc main_v4}

theorem callRefs_sub : callRefs ⊆ Pipeline.ucRefs τ sig := by decide

theorem held_call (d : Dev nD) (V : Valuation τ sig (Elt F)) (h0 : V (Proc.devRef .tc main_arg0) = m (uIdxLoc d))
    (h1 : V (Proc.devRef .tc main_arg1) = m (vIdxLoc d)) (h2 : V (Proc.devRef .tc main_arg2) = m (uTabLoc d))
    (h3 : V (Proc.devRef .tc main_arg3) = m (vTabLoc d)) :
    (held (d.tc : Thread nD τ) callRefs V : sProp 𝕄)
      = bigSep Finset.univ fun c : Fin 2 => bigSep Finset.univ fun i : Fin 16 => taskPay m d c i (V (Proc.devRef .tc main_v4)) := by
  rw [← call_arrays, ← h0, ← h1, ← h2, ← h3]
  unfold StableHlo.held callRefs
  rw [SparseCore.bigSep_insert' (by decide), SparseCore.bigSep_insert' (by decide), SparseCore.bigSep_insert' (by decide),
    SparseCore.bigSep_insert' (by decide), bigSep_singleton]

/-- The arrays the call leaves alone are the same before and after it. -/
theorem held_rest (d : Dev nD) :
    (held (d.tc : Thread nD τ) (Pipeline.ucRefs τ sig \ callRefs) (val₂ m d) : sProp 𝕄)
      = held (d.tc : Thread nD τ) (Pipeline.ucRefs τ sig \ callRefs) (val₁ m d) :=
  StableHlo.held_congr _ fun b hb => val₂_other m d b fun e => (Finset.mem_sdiff.mp hb).2 (e ▸ by decide)

/-- Before the call: what the call takes, and the rest. -/
theorem held_before (d : Dev nD) :
    (held (d.tc : Thread nD τ) (Pipeline.ucRefs τ sig) (val₁ m d) : sProp 𝕄)
      = iprop((bigSep Finset.univ fun c : Fin ((K (F := F)).nCore 0) => (P m).st 0 d c)
          ∗ held (d.tc : Thread nD τ) (Pipeline.ucRefs τ sig \ callRefs) (val₁ m d)) := by
  rw [StableHlo.held_sub_split _ callRefs_sub, held_call m d (val₁ m d) (val₁_kept m d _ (by decide)) (val₁_kept m d _ (by decide))
    (val₁_kept m d _ (by decide)) (val₁_kept m d _ (by decide)), val₁_kept m d main_v4 (by decide)]
  rfl

/-- After it: what it gives back, and the rest. -/
theorem held_after (d : Dev nD) :
    (held (d.tc : Thread nD τ) (Pipeline.ucRefs τ sig) (val₂ m d) : sProp 𝕄)
      = iprop((bigSep Finset.univ fun c : Fin ((K (F := F)).nCore 0) => (P m).dn 0 d c)
          ∗ held (d.tc : Thread nD τ) (Pipeline.ucRefs τ sig \ callRefs) (val₁ m d)) := by
  rw [StableHlo.held_sub_split _ callRefs_sub, held_rest, held_call m d (val₂ m d) (val₂_arg m d _ (by decide)) (val₂_arg m d _ (by decide))
    (val₂_arg m d _ (by decide)) (val₂_arg m d _ (by decide)), val₂_x]
  rfl

/-! ## The TensorCore's program -/

/-- What the TensorCore is left with at the end: its arrays at their last values. -/
abbrev FIN (d : Dev nD) : sProp 𝕄 := held (d.tc : Thread nD τ) (Pipeline.ucRefs τ sig) (val₄ m d)

theorem prep_held (d : Dev nD) :
    (held (d.tc : Thread nD τ) (Pipeline.ucRefs τ sig) (flat₃.result (flat₂.result (flat₁.result (flat₀.result fun b => m (d, b))))) : sProp 𝕄)
      ⊢ held (d.tc : Thread nD τ) (Pipeline.ucRefs τ sig) (val₁ m d) := Entails.of_eq rfl

theorem start_held (d : Dev nD) :
    (unscopedBufs d (fun b => m ((SparseCore.T d).loc b)) : sProp 𝕄) = held (d.tc : Thread nD τ) (Pipeline.ucRefs τ sig) fun b => m (d, b) :=
  Pipeline.unscopedBufs_held d fun b => m (d, b)

/-- The TensorCore owes no signal once the one call is made. -/
theorem otc_one (d : Dev nD) : (K (F := F)).Otc d 1 = 0 :=
  Finset.sum_eq_zero fun q _ => if_neg (by have := q.isLt; omega)

/-- The TensorCore's state after the call gives a free hand for signals, and takes one back. -/
theorem after_call (d : Dev nD) (n : ℕ) (hn : n = 1) :
    ((K (F := F)).tcSt EH d n : sProp 𝕄)
      ⊢ iprop((∃ W, owes (SparseCore.T d) (0 : CellTallies nD τ sig (HIx 1)) W)
          ∗ ((∃ W, owes (SparseCore.T d) (0 : CellTallies nD τ sig (HIx 1)) W) -∗ (K (F := F)).tcSt EH d 1)) := by
  subst hn
  unfold SparseCore.Cfg.tcSt
  rw [otc_one]
  iintro ⟨⟨%W, -, HO⟩, Hrest⟩
  isplitl [HO]
  · iexists W; iexact HO
  iintro ⟨%W', HO⟩
  isplitl [HO]
  · iexists W'
    isplitr
    · ipureintro
      intro p _
      match p with
      | (g, none) => exact Nat.zero_le _
      | (g, some q) => exact ((K (F := F)).lev_some_le _ q).trans (by have := q.isLt; show _ ≤ 8; omega)
    iexact HO
  iexact Hrest

/-- The TensorCore's region as the program calls it, from the arrays the SparseCore call leaves. -/
theorem region_step (d : Dev nD) (Q : PUnit → sProp 𝕄) :
    iprop((iprop(boundary (d.tc : Thread nD τ) ∗ held (d.tc : Thread nD τ) (Pipeline.ucRefs τ sig) (val₃ m d)
          ∗ ∃ W, owes (SparseCore.T d) (0 : CellTallies nD τ sig (HIx 1)) W) -∗ Q ⟨⟩)
        ∗ boundary (d.tc : Thread nD τ) ∗ held (d.tc : Thread nD τ) (Pipeline.ucRefs τ sig) (val₂ m d)
        ∗ (∃ W, owes (SparseCore.T d) (0 : CellTallies nD τ sig (HIx 1)) W)
        ∗ levAts (K (F := F)).L (K (F := F)).lev ∗ regionGhost (F := F) d)
      ⊢ wp frame (wpE ((K (F := F)).defs (D (F := F))) 𝒱 (SparseCore.T d) none) Set.univ
          (Prog.lift (.customCall (SparseCore.inner (Pipeline.entry 0)) ())) Q := by
  have h := (K (F := F)).wp_liftProg (D (F := F)) 𝒱 (SparseCore.T d) Set.univ none
      (.op (.customCall (Pipeline.entry 0) ()) fun _ => .ret ⟨⟩) Q
  exact (region_wp (val₂ m) d Q).trans h

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held]
  simp only [main, wp_bind, wp_pure]
  iintro ⟨#Hctx, Hst, ⟨Hb, Hh, Hts, -⟩, HG⟩
  iapply (StableHlo.wp_hlo_within 𝒱 (d.tc : Thread nD τ) none Set.univ (Pipeline.sub_ucRefs _ (StableHlo.reshape_bufs_sub _ _ _ _ _ _))) $$ [Hb Hh]
  · isplitl [Hb]; · iexact Hb
    iexact Hh
  iintro H
  rw [wp_ret]; imodintro
  iapply (StableHlo.wp_hlo_within 𝒱 (d.tc : Thread nD τ) none Set.univ (Pipeline.sub_ucRefs _ (StableHlo.reshape_bufs_sub _ _ _ _ _ _))) $$ H
  iintro H
  rw [wp_ret]; imodintro
  iapply (StableHlo.wp_hlo_within 𝒱 (d.tc : Thread nD τ) none Set.univ (Pipeline.sub_ucRefs _ (StableHlo.reshape_bufs_sub _ _ _ _ _ _))) $$ H
  iintro H
  rw [wp_ret]; imodintro
  iapply (StableHlo.wp_hlo_within 𝒱 (d.tc : Thread nD τ) none Set.univ (Pipeline.sub_ucRefs _ (StableHlo.reshape_bufs_sub _ _ _ _ _ _))) $$ H
  iintro ⟨Hb, Hh⟩
  rw [wp_ret]; imodintro
  ihave Hh := (prep_held m d) $$ Hh
  ihave Hh := (Entails.of_eq (held_before m d)) $$ Hh
  icases Hh with ⟨Hcall, Hrest⟩
  iapply ((K (F := F)).wp_run (D (F := F)) 𝒱 (EH := EH) (P := P m) κ d 0) $$ [Hst Hcall Hrest Hb Hts HG]
  isplitr; · iexact Hctx
  isplitl [Hst]; · iexact Hst
  isplitl [Hcall]; · iexact Hcall
  iintro ⟨Hst, Hdn⟩
  ihave Hh := (Entails.of_eq (held_after m d).symm) $$ [Hdn Hrest]
  · isplitl [Hdn]; · iexact Hdn
    iexact Hrest
  ihave HL := ((K (F := F)).ctx_levAts κ) $$ Hctx
  ihave Hst := (after_call (F := F) d ((0 : Fin 1).val + 1) rfl) $$ Hst
  icases Hst with ⟨HO, Hst⟩
  refine BIBase.Entails.trans ?_ (region_step m d _)
  iintro H
  icases H with ⟨⟨⟨⟨⟨⟨⟨-, Hts⟩, HG⟩, Hb⟩, Hh⟩, #HL⟩, HO⟩, Hst⟩
  isplitl [Hts Hst]
  · iintro ⟨Hb, Hh, HO⟩
    iapply (StableHlo.wp_hlo_within 𝒱 (d.tc : Thread nD τ) none Set.univ (Pipeline.sub_ucRefs _ (StableHlo.reshape_bufs_sub _ _ _ _ _ _))) $$ [Hb Hh]
    · isplitl [Hb]; · iexact Hb
      iexact Hh
    iintro ⟨Hb, Hh⟩
    rw [wp_ret]; imodintro
    imodintro
    isplitl [Hst HO]
    · iapply Hst; iexact HO
    isplitl [Hh]; · iexact Hh
    isplitl [Hb]; · iexact Hb
    iexact Hts
  isplitl [Hb]; · iexact Hb
  isplitl [Hh]; · iexact Hh
  isplitl [HO]; · iexact HO
  isplitr [HG]; · iexact HL
  iexact HG

/-! ## The launch -/

/-- The ghost state the program starts from: the handshakes' rounds, the region's rounds, no counter. -/
def u₀ : UU :=
  (initOf (K (F := F)).hsCells (K (F := F)).hsToks,
    (initOf (Pipeline.cells (nD := nD) (τ := τ) (Pipeline.pin (pcfgs (F := F)) adm) cellOf_inj)
      (Pipeline.launchToks (nD := nD) (τ := τ) (Pipeline.pin (pcfgs (F := F)) adm) cellOf_inj), 1))

/-- The region's share of it, per device. -/
theorem fund_region :
    (BI.own (EP (F := F) (initOf (Pipeline.cells (nD := nD) (τ := τ) (Pipeline.pin (pcfgs (F := F)) adm) cellOf_inj)
      (Pipeline.launchToks (nD := nD) (τ := τ) (Pipeline.pin (pcfgs (F := F)) adm) cellOf_inj))) : sProp 𝕄)
      ⊢ |==> bigSep Finset.univ fun d : Dev nD => regionGhost (F := F) d := by
  refine (Pipeline.fund_ghost (Pipeline.pin (pcfgs (F := F)) adm) (EP (F := F)) cellOf_inj).trans (bupd_mono ?_)
  rw [bigSep_sep']
  exact BI.sep_mono (BI.bigSep_mono fun _ _ => Entails.of_eq (bigSep_univ_of_subsingleton (0 : Fin 1)))
    (BI.bigSep_mono fun _ _ => Entails.of_eq (bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP := (show BI.own (((Emb.inl : Emb UP (UP × Counters)).trans embR) _) ⊢ BI.own (EP (F := F) _) from BI.Entails.refl _) $$ HP
  imod (fund_region (F := F)) $$ HP with HG
  imodintro
  isplitl [HH]; · iexact HH
  isplitl [HG]; · iexact HG
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-- What the last state's memory holds on device `d`. -/
def fq (d : Dev nD) (s' : Phys nD τ sig (Elt F)) : Prop := ∀ b ∈ Pipeline.ucRefs τ sig, s'.mem.mem (d, b) = val₄ m d b

theorem held_read (d : Dev nD) (s' : Phys nD τ sig (Elt F)) (b : DevRef τ sig) (hb : b ∈ Pipeline.ucRefs τ sig) :
    iprop(FIN m d ∗ SI s') ⊢ (⌜s'.mem.mem (d, b) = val₄ m d b⌝ : sProp 𝕄) := by
  rw [show FIN m d = iprop(held (d.tc : Thread nD τ) {b} (val₄ m d) ∗ held (d.tc : Thread nD τ) (Pipeline.ucRefs τ sig \ {b}) (val₄ m d)) from
    StableHlo.held_sub_split _ (Finset.singleton_subset_iff.mpr hb) _]
  unfold StableHlo.held
  rw [bigSep_singleton]
  iintro ⟨⟨Hb, -⟩, HSI⟩
  ihave H := (SI_pointsTo_agree (st := s') (ℓ := (d, b)) (I := Finset.univ) (q := fullShare) (f := val₄ m d b)) $$ [HSI Hb]
  · isplitl [HSI] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) :=
  fun x hx b hb => held_read m d s' b hb x hx

/-- The run's end: every device's arrays at their last values, every counter at zero. -/
def QC : PUnit × MemSt nD τ sig (Elt F) → Prop := fun r => (∀ d : Dev nD, ∀ b ∈ Pipeline.ucRefs τ sig, r.2.mem (d, b) = val₄ m d b) ∧ r.2.sem = fun _ => 0

theorem run_arrays (hm : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hm)
    (fun q _ => match q with | 0 => SparseCore.Cfg.VecSplit.of_plain (vecSplit m))
    m ρ main (fun d => regionGhost d) (FIN m) u₀ (sep_elim_left.trans (hu₀ m)) (hmain m ρ) (fq m) (hfin m) (QC m) (fun _ h hz => ⟨h, hz⟩)

/-- The run, read at the program's arguments and result. -/
theorem run_main (hm : InRange m) :
    θ_run (Cert.KernelIdeal.defs (F := F)) (Cert.KernelIdeal.threads (F := F)) ⟨m, fun _ => 0, ρ⟩ fun r =>
      (∀ d : Dev nD, r.2.mem (outLoc d) = outVal m d
        ∧ ∀ r' : Ref sig .tc, r' ∈ [main_arg0, main_arg1, main_arg2, main_arg3, main_arg4, main_arg5, main_arg6, main_arg7, main_arg8, main_arg9] →
            r.2.mem ((SparseCore.T d).loc r') = m ((SparseCore.T d).loc r')) ∧ r.2.sem = fun _ => 0 :=
  (θ_run Cert.KernelIdeal.defs _ _).mono (fun r h => ⟨fun d => ⟨(h.1 d (Proc.devRef .tc main_v6) (by decide)).trans (val₄_out m d),
    fun r' hr' => (h.1 d (Proc.devRef .tc r') ((by decide : ∀ r' ∈ [main_arg0, main_arg1, main_arg2, main_arg3, main_arg4, main_arg5, main_arg6, main_arg7, main_arg8, main_arg9], Proc.devRef .tc r' ∈ Pipeline.ucRefs τ sig) r' hr')).trans
      (val₄_kept m d r' ((by decide : ∀ r' ∈ [main_arg0, main_arg1, main_arg2, main_arg3, main_arg4, main_arg5, main_arg6, main_arg7, main_arg8, main_arg9], r' ∉ [main_v0, main_v1, main_v2, main_v3, main_v4, main_v5, main_v6]) r' hr'))⟩, h.2⟩)
    (run_arrays m ρ hm)

end Cert.Proof.Two

end
-- ==== Proof.Frames.lean ====
/-
  The frames: each program runs to its end from every memory, its arguments end as they began, and every counter ends at
  zero. For the kernel this is the run of Main.lean, which needs the row numbers to be in range; the precondition says so.
-/
module

public import proofs.«01_k».proof.Proof.Main
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.WordCmp

@[expose] public section

open Idealize.ShloMosaic Idealize.SL.Sem

noncomputable section

namespace Cert.Proof.Two

/-! ## The precondition, read at a row number -/

/-- A word that is at least zero and below 100000, as signed numbers, is below 100000 as a natural. -/
theorem word_in_range (w : BitVec 32) (h0 : IntOp.cmpi .sge w 0#32 = 1#1) (h1 : IntOp.cmpi .slt w 100000#32 = 1#1) : w.toNat < 100000 := by
  have e0 : (0#32).toInt ≤ w.toInt := (WordCmp.ofBool_decide_eq_one_iff _).1 h0
  have e1 : w.toInt < (100000#32).toInt := (WordCmp.ofBool_decide_eq_one_iff _).1 h1
  rw [show (0#32).toInt = 0 from rfl, BitVec.toInt_eq_toNat_cond] at e0
  rw [show (100000#32).toInt = 100000 from rfl, BitVec.toInt_eq_toNat_cond] at e1
  have := w.isLt
  split at e0 <;> omega

section Range
variable {F : FTy → Type} [FloatOps F]
open Cert.Pre_in_range

/-- The precondition bounds both index arrays. -/
theorem range_of_pre (ui vi : IVec S16384 32) (a2 a3 : FVec F S100000x128 .f32) (a4 : FVec F S256x64 .f32) (a5 : FVec F S64 .f32)
    (a6 : FVec F S64x32 .f32) (a7 : FVec F S32 .f32) (a8 : FVec F S32x1 .f32) (a9 : FVec F S1 .f32)
    (h : fn (F := F) ui vi a2 a3 a4 a5 a6 a7 a8 a9 = fun _ => 1#1) :
    (∀ j, (ui j).toNat < 100000) ∧ ∀ j, (vi j).toNat < 100000 := by
  have e := congrFun h (fun a => a.elim0)
  dsimp only [fn] at e
  obtain ⟨e, h4⟩ := IntOp.andi_eq_one.1 e
  obtain ⟨e, h3⟩ := IntOp.andi_eq_one.1 e
  obtain ⟨h1, h2⟩ := IntOp.andi_eq_one.1 e
  haveI : Subsingleton S_.Idx := ⟨fun a b => funext fun i => i.elim0⟩
  exact ⟨fun j => word_in_range _ (Host.reduce_andi_all _ _ _ _ _ h1 j) (Host.reduce_andi_all _ _ _ _ _ h2 j),
    fun j => word_in_range _ (Host.reduce_andi_all _ _ _ _ _ h3 j) (Host.reduce_andi_all _ _ _ _ _ h4 j)⟩

end Range

/-! ## The kernel -/

section Kept
variable {F : FTy → Type} [FloatOps F] [∀ e, Nonempty (Elt F e)]
open Cert.KernelIdeal

/-- With its row numbers in range the kernel ends with its arguments as they began and its counters at zero. -/
theorem kept (m : (ℓ : Loc nD τ sig) → Buf (Elt F) ℓ) (ρ : Dev nD → PrngReg) (hm : InRange m) :
    θ_run (defs (F := F)) (threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => ⟨fun c =>
    ⟨(h.1 c).2 main_arg0 (by decide), (h.1 c).2 main_arg1 (by decide), (h.1 c).2 main_arg2 (by decide), (h.1 c).2 main_arg3 (by decide),
      (h.1 c).2 main_arg4 (by decide), (h.1 c).2 main_arg5 (by decide), (h.1 c).2 main_arg6 (by decide), (h.1 c).2 main_arg7 (by decide),
      (h.1 c).2 main_arg8 (by decide), (h.1 c).2 main_arg9 (by decide)⟩, h.2⟩) (run_main m ρ hm)

end Kept

theorem frame_ideal : Cert.quiescent_KernelIdeal := fun m ρ hpre =>
  kept (F := Ideal) m ρ fun d => range_of_pre _ _ _ _ _ _ _ _ _ _ (hpre d)

/-- The bodies of the kernel as printed are those of the kernel read over the extended reals, label by label. -/
theorem same_bodies : Cert.Kernel.defs₀ (F := Bits) = Cert.KernelIdeal.defs₀ (F := Bits) := by
  funext p l a
  match p, l with
  | .scVector _ _, ⟨0, _⟩ => rfl
  | .scVector _ _, ⟨1, _⟩ => rfl
  | .tc, ⟨0, _⟩ => rfl
  | .tc, ⟨1, _⟩ => rfl
  | .scScalar _, ⟨0, _⟩ => rfl
  | .scScalar _, ⟨1, _⟩ => rfl

theorem same_defs : Cert.Kernel.defs (F := Bits) = Cert.KernelIdeal.defs (F := Bits) := by
  unfold Cert.Kernel.defs
  rw [same_bodies]
  rfl

/-- So the kernel as printed, over the machine's floats, runs as the other does over them. -/
theorem frame_kernel : Cert.quiescent_Kernel := fun m ρ hpre => by
  have h := kept (F := Bits) m ρ fun d => range_of_pre _ _ _ _ _ _ _ _ _ _ (hpre d)
  rw [← same_defs] at h
  exact h

/-! ## The reference -/

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run m ρ)

theorem frame_reference_pre :
    Cert.quiescent_ReferenceIdeal_pre_in_range := fun m ρ _ => frame_reference m ρ trivial

end Cert.Proof.Two

end
-- ==== Proof.Net.lean ====
/-
  The score of one row: three layers and the logistic function, over the extended reals. The kernel's region and the
  reference's products both compute it, row by row.
-/
module

public import proofs.«01_k».proof.Proof.Out
public import proofs.«01_k».proof.Proof.Gen.ReferenceIdeal
public import Idealize.ShloMosaic.Lib.StackMember
public import Idealize.ShloMosaic.Lib.MatmulPlain
public import Idealize.ShloMosaic.Lib.IdealHost

@[expose] public section

open Idealize.ShloMosaic Idealize.ShloMosaic.ValueIdx
open scoped BigOperators

noncomputable section

namespace Cert.Proof.Two

/-- A rectangle of extended reals. -/
abbrev Rect2 (M N : ℕ) : Type := FVec Ideal (⟨2, ![M, N]⟩ : Shape) .f32

/-! ## The score -/

/-- One unit of a layer: the weighted sum of the inputs and the bias, cut off below at zero. -/
def layer {K N : ℕ} (x : Fin K → EReal) (W : Rect2 K N) (b : Fin N → EReal) : Fin N → EReal := fun n =>
  max (∑ k : Fin K, x k * W (ix2 k n) + b n) 0

/-- The score of a row of 256 entries. -/
def score (x : Fin 256 → EReal) (W₁ : Rect2 256 64) (b₁ : Fin 64 → EReal) (W₂ : Rect2 64 32) (b₂ : Fin 32 → EReal) (w : Fin 32 → EReal)
    (b : EReal) : EReal :=
  Ideal.logistic (∑ k : Fin 32, layer (layer x W₁ b₁) W₂ b₂ k * w k + b)

/-! ## The kernel's region -/

section Kernel

/-- A line laid along every row. -/
theorem line_along {M N : ℕ} (B : Rect2 1 N) (h : (⟨2, ![1, N]⟩ : Shape).Broadcasts ⟨2, ![M, N]⟩) (r : Fin M) (c : Fin N) :
    broadcastTo ⟨2, ![M, N]⟩ B h (ix2 r c) = B (ix2 0 c) :=
  broadcastTo_apply B h _ _ fun a => by
    match a with
    | ⟨0, _⟩ => rfl
    | ⟨1, _⟩ =>
      show c.val = if N = 1 then 0 else c.val
      have := c.isLt
      split <;> omega

theorem kernel_layer {M K N : ℕ} (x : Rect2 M K) (W : Rect2 K N) (B : Rect2 1 N) (h : (⟨2, ![1, N]⟩ : Shape).Broadcasts ⟨2, ![M, N]⟩)
    (r : Fin M) (c : Fin N) :
    maximumf (addf (matmul (DotDims.plain M K N) none x W (constant ⟨2, ![M, N]⟩ .f32 0x00000000#32)) (broadcastTo ⟨2, ![M, N]⟩ B h))
        (broadcast ⟨2, ![M, N]⟩ (Scalar.ofBits .f32 0x00000000#32)) (ix2 r c)
      = layer (fun k => x (ix2 r k)) W (fun n => B (ix2 0 n)) c := by
  show max (FloatOps.matmul (DotDims.plain M K N) none x W (constant ⟨2, ![M, N]⟩ .f32 0x00000000#32) (ix2 r c)
      + broadcastTo ⟨2, ![M, N]⟩ B h (ix2 r c)) (Ideal.ofBits .f32 0x00000000#32) = _
  rw [Ideal.matmul_plain_apply, line_along, Ideal.ofBits_zero_f32]
  show max (Ideal.ofBits .f32 0x00000000#32 + _ + _) _ = _
  rw [Ideal.ofBits_zero_f32, zero_add]
  rfl

open Cert.KernelIdeal Cert.KernelIdeal.Gen

/-- Line `0` of the region's payload is the score, row by row. -/
theorem pay_apply (X : Rect2 8192 256) (W₁ : Rect2 256 64) (B₁ : Rect2 1 64) (W₂ : Rect2 64 32) (B₂ : Rect2 1 32) (W₃ : Rect2 1 32)
    (B₃ : Rect2 1 1) (y : Fin 8192) :
    k1_pay1 (F := Ideal) X W₁ B₁ W₂ B₂ W₃ B₃ (ix3 0 0 y)
      = score (fun k => X (ix2 y k)) W₁ (fun n => B₁ (ix2 0 n)) W₂ (fun n => B₂ (ix2 0 n)) (fun n => W₃ (ix2 0 n)) (B₃ (ix2 0 0)) := by
  unfold k1_pay1
  rw [shapeCast_apply _ _ _ (ix2 0 y) (by
    rw [Shape.rowMajor_val_two, Shape.rowMajor_val_three]; show 0 * 8192 + y.val = (0 * 1 + 0) * 8192 + y.val; omega)]
  simp only [shapeCast_self]
  show Ideal.logistic (FloatOps.matmul (DotDims.transposedRhs 1 32 8192) none W₃ _ (constant ⟨2, ![1, 8192]⟩ .f32 0x00000000#32) (ix2 0 y)
      + broadcastTo ⟨2, ![1, 8192]⟩ B₃ _ (ix2 0 y)) = _
  rw [Ideal.matmul_transposedRhs_apply, broadcastTo_apply B₃ _ _ (ix2 0 0) fun a => by
    match a with
    | ⟨0, _⟩ => rfl
    | ⟨1, _⟩ => rfl]
  show Ideal.logistic (Ideal.ofBits .f32 0x00000000#32 + _ + _) = _
  rw [Ideal.ofBits_zero_f32, zero_add]
  unfold score
  refine congrArg (fun s => Ideal.logistic (s + B₃ (ix2 0 0))) (Finset.sum_congr rfl fun k _ => ?_)
  rw [mul_comm]
  refine congrArg (· * W₃ (ix2 0 k)) ?_
  refine (kernel_layer (M := 8192) (K := 64) (N := 32) _ W₂ B₂ _ y k).trans ?_
  refine congrArg (fun x => layer x W₂ (fun n => B₂ (ix2 0 n)) k) (funext fun j => ?_)
  exact kernel_layer (M := 8192) (K := 256) (N := 64) X W₁ B₁ _ y j

end Kernel

/-! ## The reference -/

section Reference

/-- The reference's bias, a vector made a line and laid along every row. -/
theorem vector_along {M N : ℕ} (b : FVec Ideal (⟨1, ![N]⟩ : Shape) .f32) (h : (⟨1, ![N]⟩ : Shape).BroadcastsInDim ⟨2, ![1, N]⟩ ![1])
    (h' : (⟨2, ![1, N]⟩ : Shape).BroadcastsInDim ⟨2, ![M, N]⟩ ![0, 1]) (r : Fin M) (c : Fin N) :
    broadcastInDim ⟨2, ![M, N]⟩ ![0, 1] h' (broadcastInDim ⟨2, ![1, N]⟩ ![1] h b) (ix2 r c) = b (ix1 c) := by
  have hc := c.isLt
  rw [broadcastInDim_apply _ h' _ _ (ix2 0 c) fun a => by
    match a with
    | ⟨0, _⟩ => rfl
    | ⟨1, _⟩ =>
      show c.val = if N = 1 then 0 else c.val
      split <;> omega]
  exact broadcastInDim_apply _ h _ _ (ix1 c) fun a => by
    match a with
    | ⟨0, _⟩ =>
      show c.val = if N = 1 then 0 else c.val
      split <;> omega

theorem reference_layer {M K N : ℕ} (x : Rect2 M K) (W : Rect2 K N) (b : FVec Ideal (⟨1, ![N]⟩ : Shape) .f32)
    (h : (⟨1, ![N]⟩ : Shape).BroadcastsInDim ⟨2, ![1, N]⟩ ![1]) (h' : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral (DotDims.plain M K N) none x W) (broadcastInDim ⟨2, ![M, N]⟩ ![0, 1] h' (broadcastInDim ⟨2, ![1, N]⟩ ![1] h b)))
        (broadcastInDim ⟨2, ![M, N]⟩ ![] h0 (constant ⟨0, ![]⟩ .f32 0x00000000#32)) (ix2 r c)
      = layer (fun k => x (ix2 r k)) W (fun n => b (ix1 n)) c := by
  show max (Host.dotGeneral (DotDims.plain M K N) none x W (ix2 r c)
      + broadcastInDim ⟨2, ![M, N]⟩ ![0, 1] h' (broadcastInDim ⟨2, ![1, N]⟩ ![1] h b) (ix2 r c)) (Ideal.ofBits .f32 0x00000000#32) = _
  rw [StackMember.dotGeneral_plain_apply, vector_along, Ideal.ofBits_zero_f32]
  rfl

open Cert.ReferenceIdeal Cert.ReferenceIdeal.Facts₀

/-- What the reference makes of its gathered rows. -/
def net (X : Rect2 16384 256) (W₁ : Rect2 256 64) (b₁ : FVec Ideal S64 .f32) (W₂ : Rect2 64 32) (b₂ : FVec Ideal S32 .f32) (W₃ : Rect2 32 1)
    (b₃ : FVec Ideal S1 .f32) : FVec Ideal S16384 .f32 :=
  shapeCast _ (Host.divf (broadcastInDim S16384x1 ![] bcast_S_S16384x1 (constant S_ .f32 0x3F800000#32))
    (addf (broadcastInDim S16384x1 ![] bcast_S_S16384x1 (constant S_ .f32 0x3F800000#32)) (Host.exp (Host.negf
      (addf (Host.dotGeneral dot_S16384x32_S32x1_S16384x1_1_0_0_1_n_n none
        (maximumf (addf (Host.dotGeneral dot_S16384x64_S64x32_S16384x32_1_0_0_1_n_n none
          (maximumf (addf (Host.dotGeneral dot_S16384x256_S256x64_S16384x64_1_0_0_1_n_n none X W₁)
              (broadcastInDim S16384x64 ![0, 1] bcast_S1x64_S16384x64_0_1 (broadcastInDim S1x64 ![1] bcast_S64_S1x64_1 b₁)))
            (broadcastInDim S16384x64 ![] bcast_S_S16384x64 (constant S_ .f32 0x00000000#32))) W₂)
            (broadcastInDim S16384x32 ![0, 1] bcast_S1x32_S16384x32_0_1 (broadcastInDim S1x32 ![1] bcast_S32_S1x32_1 b₂)))
          (broadcastInDim S16384x32 ![] bcast_S_S16384x32 (constant S_ .f32 0x00000000#32))) W₃)
        (broadcastInDim S16384x1 ![0, 1] bcast_S1x1_S16384x1_0_1 (broadcastInDim S1x1 ![1] bcast_S1_S1x1_1 b₃)))))))
    shapeCasts_S16384x1_S16384

theorem net_apply (X : Rect2 16384 256) (W₁ : Rect2 256 64) (b₁ : FVec Ideal S64 .f32) (W₂ : Rect2 64 32) (b₂ : FVec Ideal S32 .f32)
    (W₃ : Rect2 32 1) (b₃ : FVec Ideal S1 .f32) (i : Fin 16384) :
    net X W₁ b₁ W₂ b₂ W₃ b₃ (ix1 i)
      = score (fun k => X (ix2 i k)) W₁ (fun n => b₁ (ix1 n)) W₂ (fun n => b₂ (ix1 n)) (fun n => W₃ (ix2 n 0)) (b₃ (ix1 0)) := by
  unfold net
  rw [shapeCast_apply _ _ _ (ix2 i 0) (by
    rw [Shape.rowMajor_val_two, Shape.rowMajor_val_one]; show i.val * 1 + 0 = i.val; omega)]
  show Ideal.div (Ideal.ofBits .f32 0x3F800000#32) (Ideal.ofBits .f32 0x3F800000#32 + Ideal.exp (-(Host.dotGeneral (DotDims.plain 16384 32 1) none _ W₃ (ix2 i 0)
      + broadcastInDim S16384x1 ![0, 1] bcast_S1x1_S16384x1_0_1 (broadcastInDim S1x1 ![1] bcast_S1_S1x1_1 b₃) (ix2 i 0)))) = _
  rw [StackMember.dotGeneral_plain_apply, Ideal.ofBits_one_f32]
  rw [show broadcastInDim S16384x1 ![0, 1] bcast_S1x1_S16384x1_0_1 (broadcastInDim S1x1 ![1] bcast_S1_S1x1_1 b₃) (ix2 i 0) = b₃ (ix1 0) from
    vector_along (M := 16384) (N := 1) b₃ _ _ i 0]
  unfold score Ideal.logistic
  refine congrArg (fun s => Ideal.div 1 (1 + Ideal.exp (-(s + b₃ (ix1 0))))) (Finset.sum_congr rfl fun k _ => ?_)
  refine congrArg (· * W₃ (ix2 k 0)) ?_
  refine (reference_layer (M := 16384) (K := 64) (N := 32) _ W₂ b₂ _ _ _ i k).trans ?_
  refine congrArg (fun x => layer x W₂ (fun n => b₂ (ix1 n)) k) (funext fun j => ?_)
  exact reference_layer (M := 16384) (K := 256) (N := 64) X W₁ b₁ _ _ _ i j

end Reference

end Cert.Proof.Two

end
-- ==== Proof.Rows.lean ====
/-
  The reference's look-up of rows. It wraps negative row numbers, reads the rows, and blanks those whose number is out of
  range; where every number is in range it reads the row of that number. Two look-ups side by side are the kernel's
  gathered array.
-/
module

public import proofs.«01_k».proof.Proof.Setup
public import proofs.«01_k».proof.Proof.Gen.ReferenceIdeal
public import Idealize.ShloMosaic.Lib.Routing.Ops
public import Idealize.ShloMosaic.Lib.ReduceAll
public import Idealize.ShloMosaic.Lib.Pointwise.SelectCore

@[expose] public section

open Idealize.ShloMosaic

noncomputable section

namespace Cert.Proof.Two

section Rows
open Cert.ReferenceIdeal Cert.ReferenceIdeal.Facts₀

variable {α : Type}

/-- The row numbers the reference looks up, negative ones wrapped, as a column. -/
def wrapped (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- Whether a row number is in range, row by row. -/
def known (idx : IVec S16384 32) : IVec S16384 1 :=
  Host.reduce IntOp.andi
    (andi (cmpi .sge (wrapped idx) (broadcastInDim S16384x1 ![] bcast_S_S16384x1 (constantI S_ 32 0#32)))
      (cmpi .sle (wrapped idx) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows looked up, those out of range blanked by `fill`. -/
def taken (idx : IVec S16384 32) (table : S100000x128.Idx → α) (fill : S16384x128.Idx → α) : S16384x128.Idx → α :=
  select (broadcastInDim S16384x128 ![0] bcast_S16384_S16384x128_0 (known idx))
    (Host.gather gather_S100000x128_S16384x1_S16384x128_1_0_n_n_0_1_1128 table (wrapped idx)) fill

/-! ## Words in range, compared as signed numbers -/

theorem toInt_of_range {w : BitVec 32} (h : w.toNat < 100000) : w.toInt = w.toNat := by
  rw [BitVec.toInt_eq_toNat_cond, if_pos (by omega)]

theorem not_negative {w : BitVec 32} (h : w.toNat < 100000) : IntOp.cmpi .slt w 0#32 = 0#1 :=
  (congrArg BitVec.ofBool (decide_eq_false (show ¬ w.toInt < (0#32).toInt by
    rw [toInt_of_range h, show (0#32).toInt = 0 from rfl]; omega)) : _)

theorem at_least_zero {w : BitVec 32} (h : w.toNat < 100000) : IntOp.cmpi .sge w 0#32 = 1#1 :=
  (congrArg BitVec.ofBool (decide_eq_true (show (0#32).toInt ≤ w.toInt by
    rw [toInt_of_range h, show (0#32).toInt = 0 from rfl]; omega)) : _)

theorem at_most_last {w : BitVec 32} (h : w.toNat < 100000) : IntOp.cmpi .sle w 99999#32 = 1#1 :=
  (congrArg BitVec.ofBool (decide_eq_true (show w.toInt ≤ (99999#32).toInt by
    rw [toInt_of_range h, show (99999#32).toInt = 99999 from rfl]; omega)) : _)

/-! ## The look-up -/

variable {idx : IVec S16384 32} (h : ∀ j, (idx j).toNat < 100000)
include h

theorem wrapped_apply (i : S16384x1.Idx) : wrapped idx i = idx (ValueIdx.ix1 (i 0)) := by
  unfold wrapped
  refine (broadcastInDim_apply _ _ _ i (ValueIdx.ix1 (i 0)) fun a => by match a with | ⟨0, _⟩ => rfl).trans ?_
  show Scalar.select (IntOp.cmpi .slt (idx (ValueIdx.ix1 (i 0))) 0#32) _ _ = _
  rw [not_negative (h _)]
  rfl

theorem known_apply (j : S16384.Idx) : known idx j = 1#1 :=
  Host.reduce_andi_one _ _ _ _ _ rfl fun i => by
    show IntOp.andi (IntOp.cmpi .sge (wrapped idx i) 0#32) (IntOp.cmpi .sle (wrapped idx i) 99999#32) = 1#1
    rw [wrapped_apply h, at_least_zero (h _), at_most_last (h _)]
    rfl

theorem taken_apply (table : S100000x128.Idx → α) (fill : S16384x128.Idx → α) (i : Fin 16384) (c : Fin 128) :
    taken idx table fill (ValueIdx.ix2 i c) = table (ValueIdx.ix2 (rowAt (idx (ValueIdx.ix1 i))) c) := by
  unfold taken
  show Scalar.select (broadcastInDim S16384x128 ![0] bcast_S16384_S16384x128_0 (known idx) (ValueIdx.ix2 i c)) _ _ = _
  rw [broadcastInDim_apply _ _ _ _ (ValueIdx.ix1 i) fun a => by match a with | ⟨0, _⟩ => rfl]
  rw [known_apply h]
  refine (Routing.gather_row (nb := 100000) (B := 128) (n := 16384) gather_S100000x128_S16384x1_S16384x128_1_0_n_n_0_1_1128 rfl rfl rfl rfl rfl
    table (wrapped idx) i c (rowAt (idx (ValueIdx.ix1 i))) ?_ (by norm_num))
  rw [wrapped_apply h, rowAt_val (h _)]
  simp

end Rows

/-! ## Two look-ups side by side -/

open Cert.ReferenceIdeal Cert.ReferenceIdeal.Facts₀ in
theorem beside {α : Type} {ui vi : IVec S16384 32} (hu : ∀ j, (ui j).toNat < 100000) (hv : ∀ j, (vi j).toNat < 100000)
    (ut vt : S100000x128.Idx → α) (f g : S16384x128.Idx → α) :
    concatenate S16384x256 1 [⟨S16384x128, taken ui ut f⟩, ⟨S16384x128, taken vi vt g⟩] concatenates_S16384x128_S16384x128_S16384x256_d1
      = catRows ui vi ut vt := by
  funext j
  rw [concatenate_pair_apply]
  unfold catRows
  by_cases hj : (j 1).val < 128
  · rw [dif_pos hj]
    refine (dif_pos hj).trans ?_
    refine Eq.trans (congrArg _ (?_ : _ = ValueIdx.ix2 (j 0) ⟨(j 1).val, hj⟩)) (taken_apply hu ut f (j 0) ⟨(j 1).val, hj⟩)
    funext b
    match b with
    | ⟨0, _⟩ => rfl
    | ⟨1, _⟩ => rfl
  · rw [dif_neg hj]
    refine (dif_neg hj).trans ?_
    refine Eq.trans (congrArg _ (?_ : _ = ValueIdx.ix2 (j 0) ⟨(j 1).val - 128, _⟩)) (taken_apply hv vt g (j 0) ⟨(j 1).val - 128, _⟩)
    funext b
    match b with
    | ⟨0, _⟩ => rfl
    | ⟨1, _⟩ => rfl

end Cert.Proof.Two

end
-- ==== Proof.Value.lean ====
/-
  The value claim: over the extended reals the kernel ends with the reference's scores.
-/
module

public import proofs.«01_k».proof.Proof.Frames
public import proofs.«01_k».proof.Proof.Net
public import proofs.«01_k».proof.Proof.Rows

@[expose] public section

open Idealize.ShloMosaic Idealize.SL.Sem

noncomputable section

namespace Cert.Proof.Two

/-! ## The kernel's scores are the reference's network of the gathered rows -/

section Kernel
open Cert.KernelIdeal Cert.KernelIdeal.Gen

/-- A vector made a line, read at a place. -/
theorem as_line {N : ℕ} (b : FVec Ideal (⟨1, ![N]⟩ : Shape) .f32) (h : (⟨1, ![N]⟩ : Shape).ShapeCasts ⟨2, ![1, N]⟩) (n : Fin N) :
    shapeCast ⟨2, ![1, N]⟩ b h (ValueIdx.ix2 0 n) = b (ValueIdx.ix1 n) :=
  shapeCast_apply b h _ _ (by rw [Shape.rowMajor_val_two, Shape.rowMajor_val_one]; show n.val = 0 * N + n.val; omega)

/-- A column made a line, read at a place. -/
theorem column_as_line {N : ℕ} (w : Rect2 N 1) (h : (⟨2, ![N, 1]⟩ : Shape).ShapeCasts ⟨2, ![1, N]⟩) (n : Fin N) :
    shapeCast ⟨2, ![1, N]⟩ w h (ValueIdx.ix2 0 n) = w (ValueIdx.ix2 n 0) :=
  shapeCast_apply w h _ _ (by rw [Shape.rowMajor_val_two, Shape.rowMajor_val_two]; show n.val * 1 + 0 = 0 * N + n.val; omega)

/-- The two lines of scores, read as one vector. -/
theorem lines_apply (X : Rect2 16384 256) (W₁ : Rect2 256 64) (b₁ : FVec Ideal S64 .f32) (W₂ : Rect2 64 32) (b₂ : FVec Ideal S32 .f32)
    (W₃ : Rect2 32 1) (b₃ : FVec Ideal S1 .f32) :
    shapeCast S16384 (lines (F := Ideal) X W₁ (shapeCast S1x64 b₁ shapeCasts_S64_S1x64) W₂ (shapeCast S1x32 b₂ shapeCasts_S32_S1x32)
        (shapeCast S1x32 W₃ shapeCasts_S32x1_S1x32) (shapeCast S1x1 b₃ shapeCasts_S1_S1x1)) shapeCasts_S2x1x8192_S16384
      = net X W₁ b₁ W₂ b₂ W₃ b₃ := by
  funext j
  obtain ⟨i, rfl⟩ : ∃ i : Fin 16384, j = ValueIdx.ix1 i := ⟨j 0, ValueIdx.eq_ix1 j⟩
  have hi := i.isLt
  rw [net_apply]
  refine (shapeCast_apply _ _ _ (ValueIdx.ix3 ⟨i.val / 8192, by omega⟩ 0 ⟨i.val % 8192, by omega⟩) (by
    rw [Shape.rowMajor_val_three, Shape.rowMajor_val_one]; show (i.val / 8192 * 1 + 0) * 8192 + i.val % 8192 = i.val; omega)).trans ?_
  refine (pay_apply _ _ _ _ _ _ _ _).trans ?_
  rw [as_line b₃, funext (as_line b₁ shapeCasts_S64_S1x64), funext (as_line b₂ shapeCasts_S32_S1x32),
    funext (column_as_line W₃ shapeCasts_S32x1_S1x32)]
  refine congrArg (fun x => score x W₁ _ W₂ _ _ _) (funext fun k => ?_)
  exact congrArg (fun r => X (ValueIdx.ix2 r k)) (Fin.ext (show i.val / 8192 * 8192 + i.val % 8192 = i.val by omega))

end Kernel

/-! ## The reference's result, in the same words -/

section Reference
open Cert.ReferenceIdeal Cert.ReferenceIdeal.Facts₀

variable (m : (ℓ : Loc nD τ sig) → Buf (Elt Ideal) ℓ) (c : Dev nD)

/-- The reference's blank rows. -/
abbrev blank : FVec Ideal S16384x128 .f32 := broadcastInDim S16384x128 ![] bcast_S_S16384x128 (constant S_ .f32 0x7FC00000#32)

theorem reference_value (hu : ∀ j, (m ((c.tc : Thread nD τ).loc main_arg0) j).toNat < 100000) (hv : ∀ j, (m ((c.tc : Thread nD τ).loc main_arg1) j).toNat < 100000) :
    Cert.ReferenceIdeal.Value.res_main_v23 m c
      = net (catRows (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) := by
  rw [← beside hu hv _ _ blank blank]
  rfl

end Reference

/-! ## The claim -/

theorem value : Cert.algebraic_KernelIdeal_ReferenceIdeal := fun m g m' g' hpre hagree => by
  have hm : InRange m := fun d => range_of_pre _ _ _ _ _ _ _ _ _ _ (hpre d)
  refine ⟨fun c => outVal m c, ?_, ?_⟩
  · exact (θ_run Cert.KernelIdeal.defs _ _).mono (fun r h c => ⟨(h.1 c).1,
      (h.1 c).2 Cert.KernelIdeal.main_arg0 (by decide), (h.1 c).2 Cert.KernelIdeal.main_arg1 (by decide),
      (h.1 c).2 Cert.KernelIdeal.main_arg2 (by decide), (h.1 c).2 Cert.KernelIdeal.main_arg3 (by decide),
      (h.1 c).2 Cert.KernelIdeal.main_arg4 (by decide), (h.1 c).2 Cert.KernelIdeal.main_arg5 (by decide),
      (h.1 c).2 Cert.KernelIdeal.main_arg6 (by decide), (h.1 c).2 Cert.KernelIdeal.main_arg7 (by decide),
      (h.1 c).2 Cert.KernelIdeal.main_arg8 (by decide), (h.1 c).2 Cert.KernelIdeal.main_arg9 (by decide)⟩) (run_main (F := Ideal) m g hm)
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9⟩ := hagree c
    rw [reference_value m' c (fun j => by rw [h0]; exact (hm c).1 j) (fun j => by rw [h1]; exact (hm c).2 j),
      h0, h1, h2, h3, h4, h5, h6, h7, h8, h9]
    exact (lines_apply _ _ _ _ _ _ _).symm

end Cert.Proof.Two

end
-- ==== Proof.lean ====
/-
  Every claim of the statement together. The frames are in Frames.lean and the value claim in Value.lean; the idealized kernel
  differs from the printed one nowhere, so nothing is left to show of `preserves`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Value

@[expose] public section

namespace Cert.Proof

theorem claim : Cert.Claim :=
  ⟨Cert.Kernel.Gen.facts, Cert.KernelIdeal.Gen.facts, Cert.ReferenceIdeal.Gen.facts, Cert.Pre_in_range.Gen.facts,
    Two.frame_kernel, Two.frame_ideal, Two.frame_reference, Two.frame_reference_pre, trivial, Two.value⟩

end Cert.Proof
